-- ==== Defs.lean ====
def Pre_Kernel [hPre_pi_rolled_by_1_Kernel : Cert.Pre_pi_rolled_by_1_Kernel.Facts] (m : (ℓ : Loc Cert.Kernel.nD Cert.Kernel.τ Cert.Kernel.sig) → Buf (Elt Bits) ℓ) : Prop :=
  ∀ c : Dev Cert.Kernel.nD,
    (Cert.Pre_pi_rolled_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_rolled_by_2_Kernel [hPre_pi_rolled_by_2_Kernel : Cert.Pre_pi_rolled_by_2_Kernel.Facts] (m : (ℓ : Loc Cert.Kernel.nD Cert.Kernel.τ Cert.Kernel.sig) → Buf (Elt Bits) ℓ) : Prop :=
  ∀ c : Dev Cert.Kernel.nD,
    (Cert.Pre_pi_rolled_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_rolled_by_3_Kernel [hPre_pi_rolled_by_3_Kernel : Cert.Pre_pi_rolled_by_3_Kernel.Facts] (m : (ℓ : Loc Cert.Kernel.nD Cert.Kernel.τ Cert.Kernel.sig) → Buf (Elt Bits) ℓ) : Prop :=
  ∀ c : Dev Cert.Kernel.nD,
    (Cert.Pre_pi_rolled_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_rolled_by_1_Kernel : Cert.Pre_pi_rolled_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_rolled_by_2_Kernel [hPre_pi_rolled_by_2_Kernel : Cert.Pre_pi_rolled_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_rolled_by_3_Kernel [hPre_pi_rolled_by_3_Kernel : Cert.Pre_pi_rolled_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_rolled_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_rolled_by_1_ReferenceIdeal [hPre_pi_rolled_by_1_ReferenceIdeal : Cert.Pre_pi_rolled_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_rolled_by_2_ReferenceIdeal [hPre_pi_rolled_by_2_ReferenceIdeal : Cert.Pre_pi_rolled_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_rolled_by_3_ReferenceIdeal [hPre_pi_rolled_by_3_ReferenceIdeal : Cert.Pre_pi_rolled_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_rolled_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_rolled_by_1_Kernel : Cert.Pre_pi_rolled_by_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_rolled_by_2_Kernel [hKernel : Cert.Kernel.Facts] [hPre_pi_rolled_by_2_Kernel : Cert.Pre_pi_rolled_by_2_Kernel.Facts] : Prop :=
  ∀ (m : (ℓ : Loc Cert.Kernel.nD Cert.Kernel.τ Cert.Kernel.sig) → Buf (Elt Bits) ℓ) (g : Dev Cert.Kernel.nD → PrngReg), Pre_Kernel_pi_rolled_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_rolled_by_3_Kernel [hKernel : Cert.Kernel.Facts] [hPre_pi_rolled_by_3_Kernel : Cert.Pre_pi_rolled_by_3_Kernel.Facts] : Prop :=
  ∀ (m : (ℓ : Loc Cert.Kernel.nD Cert.Kernel.τ Cert.Kernel.sig) → Buf (Elt Bits) ℓ) (g : Dev Cert.Kernel.nD → PrngReg), Pre_Kernel_pi_rolled_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_rolled_by_1_Kernel : Cert.Pre_pi_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_rolled_by_2_Kernel [hKernelIdeal : Cert.KernelIdeal.Facts] [hPre_pi_rolled_by_2_Kernel : Cert.Pre_pi_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_rolled_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_rolled_by_3_Kernel [hKernelIdeal : Cert.KernelIdeal.Facts] [hPre_pi_rolled_by_3_Kernel : Cert.Pre_pi_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_rolled_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_1_ReferenceIdeal [hReferenceIdeal : Cert.ReferenceIdeal.Facts] [hPre_pi_rolled_by_1_ReferenceIdeal : Cert.Pre_pi_rolled_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_2_ReferenceIdeal [hReferenceIdeal : Cert.ReferenceIdeal.Facts] [hPre_pi_rolled_by_2_ReferenceIdeal : Cert.Pre_pi_rolled_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_rolled_by_3_ReferenceIdeal [hReferenceIdeal : Cert.ReferenceIdeal.Facts] [hPre_pi_rolled_by_3_ReferenceIdeal : Cert.Pre_pi_rolled_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_rolled_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_rolled_by_1_Kernel : Cert.Pre_pi_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_rolled_by_2_Kernel [hKernelIdeal : Cert.KernelIdeal.Facts] [hReferenceIdeal : Cert.ReferenceIdeal.Facts] [hPre_pi_rolled_by_2_Kernel : Cert.Pre_pi_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_rolled_by_2_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_rolled_by_3_Kernel [hKernelIdeal : Cert.KernelIdeal.Facts] [hReferenceIdeal : Cert.ReferenceIdeal.Facts] [hPre_pi_rolled_by_3_Kernel : Cert.Pre_pi_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_rolled_by_3_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_rolled_by_1_Kernel : Cert.Pre_pi_rolled_by_1_Kernel.Facts) (hPre_pi_rolled_by_2_Kernel : Cert.Pre_pi_rolled_by_2_Kernel.Facts) (hPre_pi_rolled_by_3_Kernel : Cert.Pre_pi_rolled_by_3_Kernel.Facts) (hPre_pi_rolled_by_1_ReferenceIdeal : Cert.Pre_pi_rolled_by_1_ReferenceIdeal.Facts) (hPre_pi_rolled_by_2_ReferenceIdeal : Cert.Pre_pi_rolled_by_2_ReferenceIdeal.Facts) (hPre_pi_rolled_by_3_ReferenceIdeal : Cert.Pre_pi_rolled_by_3_ReferenceIdeal.Facts),
    quiescent_Kernel (hKernel := hKernel) (hPre_pi_rolled_by_1_Kernel := hPre_pi_rolled_by_1_Kernel)
    ∧ quiescent_Kernel_pre_pi_rolled_by_2_Kernel (hKernel := hKernel) (hPre_pi_rolled_by_2_Kernel := hPre_pi_rolled_by_2_Kernel)
    ∧ quiescent_Kernel_pre_pi_rolled_by_3_Kernel (hKernel := hKernel) (hPre_pi_rolled_by_3_Kernel := hPre_pi_rolled_by_3_Kernel)
    ∧ quiescent_KernelIdeal (hKernelIdeal := hKernelIdeal) (hPre_pi_rolled_by_1_Kernel := hPre_pi_rolled_by_1_Kernel)
    ∧ quiescent_KernelIdeal_pre_pi_rolled_by_2_Kernel (hKernelIdeal := hKernelIdeal) (hPre_pi_rolled_by_2_Kernel := hPre_pi_rolled_by_2_Kernel)
    ∧ quiescent_KernelIdeal_pre_pi_rolled_by_3_Kernel (hKernelIdeal := hKernelIdeal) (hPre_pi_rolled_by_3_Kernel := hPre_pi_rolled_by_3_Kernel)
    ∧ quiescent_ReferenceIdeal (hReferenceIdeal := hReferenceIdeal)
    ∧ quiescent_ReferenceIdeal_pre_pi_rolled_by_1_ReferenceIdeal (hReferenceIdeal := hReferenceIdeal) (hPre_pi_rolled_by_1_ReferenceIdeal := hPre_pi_rolled_by_1_ReferenceIdeal)
    ∧ quiescent_ReferenceIdeal_pre_pi_rolled_by_2_ReferenceIdeal (hReferenceIdeal := hReferenceIdeal) (hPre_pi_rolled_by_2_ReferenceIdeal := hPre_pi_rolled_by_2_ReferenceIdeal)
    ∧ quiescent_ReferenceIdeal_pre_pi_rolled_by_3_ReferenceIdeal (hReferenceIdeal := hReferenceIdeal) (hPre_pi_rolled_by_3_ReferenceIdeal := hPre_pi_rolled_by_3_ReferenceIdeal)
    ∧ preserves_Kernel_KernelIdeal
    ∧ algebraic_KernelIdeal_ReferenceIdeal (hKernelIdeal := hKernelIdeal) (hReferenceIdeal := hReferenceIdeal) (hPre_pi_rolled_by_1_Kernel := hPre_pi_rolled_by_1_Kernel)
    ∧ algebraic_KernelIdeal_ReferenceIdeal_pre_pi_rolled_by_2_Kernel (hKernelIdeal := hKernelIdeal) (hReferenceIdeal := hReferenceIdeal) (hPre_pi_rolled_by_2_Kernel := hPre_pi_rolled_by_2_Kernel)
    ∧ algebraic_KernelIdeal_ReferenceIdeal_pre_pi_rolled_by_3_Kernel (hKernelIdeal := hKernelIdeal) (hReferenceIdeal := hReferenceIdeal) (hPre_pi_rolled_by_3_Kernel := hPre_pi_rolled_by_3_Kernel)
-- ==== Pre_pi_rolled_by_1_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_rolled_by_1_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_rolled_by_2_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_rolled_by_2_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_rolled_by_3_Kernel.lean ====
abbrev S1x1024x1024 : Shape := ⟨3, ![1, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Pre_pi_rolled_by_3_ReferenceIdeal.lean ====
abbrev S4x1024x1024 : Shape := ⟨3, ![4, 1024, 1024]⟩
abbrev S4 : Shape := ⟨1, ![4]⟩
abbrev S_ : Shape := ⟨0, ![]⟩

class Facts : Prop where
  reducesTo_S4_S_d0 : S4.ReducesTo [0] S_
  h_S_ : 0 < S_.numel

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x1024x1024 .bf16) (main_arg1 : IVec S4 32) : IVec S_ 1 :=
  let main_c : IVec S4 32 := fun i => lit0 (S4.rowMajor i)
  let main_v0 : IVec S4 1 := cmpi .eq main_arg1 main_c
  let main_c_0 : IVec S_ 1 := constantI S_ 1 1#1
  let main_v1 : IVec S_ 1 := (fun x v => Host.reduce IntOp.andi x v reducesTo_S4_S_d0 h_S_) main_v0 main_c_0
  main_v1
-- ==== Kernel.lean ====
abbrev S1x1024x1024 : Shape := ⟨3, ![1, 1024, 1024]⟩
abbrev S4 : Shape := ⟨1, ![4]⟩
abbrev S256x1024 : Shape := ⟨2, ![256, 1024]⟩
abbrev S_ : Shape := ⟨0, ![]⟩
abbrev S8 : Shape := ⟨1, ![8]⟩
abbrev S1 : Shape := ⟨1, ![1]⟩
abbrev S1x256x1024 : Shape := ⟨3, ![1, 256, 1024]⟩
abbrev S1x32x1024 : Shape := ⟨3, ![1, 32, 1024]⟩
abbrev S32x1024 : Shape := ⟨2, ![32, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x1024x1024, .bf16⟩
  | .hbm, ⟨1, _⟩ => ⟨S4, .i32⟩
  | .hbm, ⟨2, _⟩ => ⟨S1x1024x1024, .bf16⟩
  | .local _ .vmem, ⟨0, _⟩ => ⟨S256x1024, .bf16⟩
  | .local _ .vmem, ⟨1, _⟩ => ⟨S256x1024, .bf16⟩
  | .local _ .smem, ⟨0, _⟩ => ⟨S4, .i32⟩
  | _, _ => ⟨S1x1024x1024, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 2 → Bool
  | ⟨0, _⟩ => true
  | ⟨1, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 1

abbrev nD : Nat := 16
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_off2 (d0 : Dev nD) : Fin 3 → Nat :=
  let c0_i32_6 : BitVec 32 := 0#32
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.muli c2_i32_5 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.addi v23 v5
  let c256_i32 : BitVec 32 := 256#32
  let v25 : BitVec 32 := Scalar.muli v24 c256_i32
  let c0_i32_7 : BitVec 32 := 0#32
  ![0, v25.toNat, 0]
def k0_dev1 (d0 : Dev nD) (v11 : BitVec 32) (v14 : BitVec 32) (v17 : BitVec 32) (v20 : BitVec 32) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v33 : BitVec 32 := Scalar.muli v2 c8_i32_13
  let v34 : BitVec 32 := Scalar.addi c0_i32_14 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v35 : BitVec 32 := Scalar.muli v5 c4_i32_15
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32_2 : BitVec 32 := 0#32
  let c0_i32 : BitVec 32 := 0#32
  let v13 : BitVec 32 := Scalar.select v12 c0_i32_2 c0_i32
  let v16 : BitVec 32 := Scalar.select v15 c1_i32_3 v13
  let v19 : BitVec 32 := Scalar.select v18 c2_i32_4 v16
  let v22 : BitVec 32 := Scalar.select v21 c3_i32 v19
  let c1_i32_16 : BitVec 32 := 1#32
  let v37 : BitVec 32 := Scalar.muli v22 c1_i32_16
  let v38 : BitVec 32 := Scalar.addi v36 v37
  v38.toNat

def k0_dev2 (d0 : Dev nD) (v10 : BitVec 32) : Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_18 : BitVec 32 := 8#32
  let v39 : BitVec 32 := Scalar.muli v2 c8_i32_18
  let v40 : BitVec 32 := Scalar.addi c0_i32_19 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v41 : BitVec 32 := Scalar.muli v5 c4_i32_20
  let v42 : BitVec 32 := Scalar.addi v40 v41
  let c1_i32_21 : BitVec 32 := 1#32
  let v43 : BitVec 32 := Scalar.muli v10 c1_i32_21
  let v44 : BitVec 32 := Scalar.addi v42 v43
  v44.toNat

def k0_dev3 (d0 : Dev nD) : Nat :=
  let c0_i32_24 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v29 : BitVec 32 := Scalar.subi c1_i32_8 v2
  let c8_i32_23 : BitVec 32 := 8#32
  let v45 : BitVec 32 := Scalar.muli v29 c8_i32_23
  let v46 : BitVec 32 := Scalar.addi c0_i32_24 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_25 : BitVec 32 := 4#32
  let v47 : BitVec 32 := Scalar.muli v5 c4_i32_25
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v49 : BitVec 32 := Scalar.muli v8 c1_i32_26
  let v50 : BitVec 32 := Scalar.addi v48 v49
  v50.toNat
def k0_dev4 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v51 : BitVec 32 := Scalar.muli v2 c8_i32_28
  let v52 : BitVec 32 := Scalar.addi c0_i32_29 v51
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v30 : BitVec 32 := Scalar.subi c1_i32_9 v5
  let c4_i32_30 : BitVec 32 := 4#32
  let v53 : BitVec 32 := Scalar.muli v30 c4_i32_30
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v55 : BitVec 32 := Scalar.muli v8 c1_i32_31
  let v56 : BitVec 32 := Scalar.addi v54 v55
  v56.toNat
def k0_dev5 (d0 : Dev nD) : Nat :=
  let c0_i32_34 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.subi c1_i32_10 v2
  let c8_i32_33 : BitVec 32 := 8#32
  let v57 : BitVec 32 := Scalar.muli v31 c8_i32_33
  let v58 : BitVec 32 := Scalar.addi c0_i32_34 v57
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_11 v5
  let c4_i32_35 : BitVec 32 := 4#32
  let v59 : BitVec 32 := Scalar.muli v32 c4_i32_35
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v61 : BitVec 32 := Scalar.muli v8 c1_i32_36
  let v62 : BitVec 32 := Scalar.addi v60 v61
  v62.toNat
def k0_off3 (d0 : Dev nD) : Fin 3 → Nat :=
  let c0_i32_37 : BitVec 32 := 0#32
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.muli c2_i32_5 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.addi v23 v5
  let c256_i32 : BitVec 32 := 256#32
  let v25 : BitVec 32 := Scalar.muli v24 c256_i32
  let c0_i32_38 : BitVec 32 := 0#32
  ![0, v25.toNat, 0]
def k0_off4 (d0 : Dev nD) (c0_i32_44 : BitVec 32) : Fin 3 → Nat :=
  let c0_i32_45 : BitVec 32 := 0#32
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.muli c2_i32_5 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.addi v23 v5
  let c256_i32_43 : BitVec 32 := 256#32
  let v69 : BitVec 32 := Scalar.muli v24 c256_i32_43
  let v70 : BitVec 32 := Scalar.addi v69 c0_i32_44
  let c0_i32_52 : BitVec 32 := 0#32
  ![0, v70.toNat, 0]
def k0_dev6 (d0 : Dev nD) (v10 : BitVec 32) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v71 : BitVec 32 := Scalar.muli v2 c8_i32_48
  let v72 : BitVec 32 := Scalar.addi c0_i32_49 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v73 : BitVec 32 := Scalar.muli v5 c4_i32_50
  let v74 : BitVec 32 := Scalar.addi v72 v73
  let c1_i32_51 : BitVec 32 := 1#32
  let v75 : BitVec 32 := Scalar.muli v10 c1_i32_51
  let v76 : BitVec 32 := Scalar.addi v74 v75
  v76.toNat
def k0_dev7 (d0 : Dev nD) (v10 : BitVec 32) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v86 : BitVec 32 := Scalar.muli v2 c8_i32_59
  let v87 : BitVec 32 := Scalar.addi c0_i32_60 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v88 : BitVec 32 := Scalar.muli v5 c4_i32_61
  let v89 : BitVec 32 := Scalar.addi v87 v88
  let c1_i32_62 : BitVec 32 := 1#32
  let v90 : BitVec 32 := Scalar.muli v10 c1_i32_62
  let v91 : BitVec 32 := Scalar.addi v89 v90
  v91.toNat
def k0_dev8 (d0 : Dev nD) (v10 : BitVec 32) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v101 : BitVec 32 := Scalar.muli v2 c8_i32_70
  let v102 : BitVec 32 := Scalar.addi c0_i32_71 v101
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_72 : BitVec 32 := 4#32
  let v103 : BitVec 32 := Scalar.muli v5 c4_i32_72
  let v104 : BitVec 32 := Scalar.addi v102 v103
  let c1_i32_73 : BitVec 32 := 1#32
  let v105 : BitVec 32 := Scalar.muli v10 c1_i32_73
  let v106 : BitVec 32 := Scalar.addi v104 v105
  v106.toNat
def k0_dev9 (d0 : Dev nD) (v10 : BitVec 32) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v116 : BitVec 32 := Scalar.muli v2 c8_i32_81
  let v117 : BitVec 32 := Scalar.addi c0_i32_82 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v118 : BitVec 32 := Scalar.muli v5 c4_i32_83
  let v119 : BitVec 32 := Scalar.addi v117 v118
  let c1_i32_84 : BitVec 32 := 1#32
  let v120 : BitVec 32 := Scalar.muli v10 c1_i32_84
  let v121 : BitVec 32 := Scalar.addi v119 v120
  v121.toNat
def k0_dev10 (d0 : Dev nD) (v10 : BitVec 32) : Nat :=
  let c0_i32_93 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_92 : BitVec 32 := 8#32
  let v131 : BitVec 32 := Scalar.muli v2 c8_i32_92
  let v132 : BitVec 32 := Scalar.addi c0_i32_93 v131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_94 : BitVec 32 := 4#32
  let v133 : BitVec 32 := Scalar.muli v5 c4_i32_94
  let v134 : BitVec 32 := Scalar.addi v132 v133
  let c1_i32_95 : BitVec 32 := 1#32
  let v135 : BitVec 32 := Scalar.muli v10 c1_i32_95
  let v136 : BitVec 32 := Scalar.addi v134 v135
  v136.toNat
def k0_dev11 (d0 : Dev nD) (v10 : BitVec 32) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v146 : BitVec 32 := Scalar.muli v2 c8_i32_103
  let v147 : BitVec 32 := Scalar.addi c0_i32_104 v146
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v148 : BitVec 32 := Scalar.muli v5 c4_i32_105
  let v149 : BitVec 32 := Scalar.addi v147 v148
  let c1_i32_106 : BitVec 32 := 1#32
  let v150 : BitVec 32 := Scalar.muli v10 c1_i32_106
  let v151 : BitVec 32 := Scalar.addi v149 v150
  v151.toNat
def k0_dev12 (d0 : Dev nD) (v10 : BitVec 32) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v161 : BitVec 32 := Scalar.muli v2 c8_i32_113
  let v162 : BitVec 32 := Scalar.addi c0_i32_114 v161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v163 : BitVec 32 := Scalar.muli v5 c4_i32_115
  let v164 : BitVec 32 := Scalar.addi v162 v163
  let c1_i32_116 : BitVec 32 := 1#32
  let v165 : BitVec 32 := Scalar.muli v10 c1_i32_116
  let v166 : BitVec 32 := Scalar.addi v164 v165
  v166.toNat
def k0_dev13 (d0 : Dev nD) (v10 : BitVec 32) : Nat :=
  let c0_i32_124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_123 : BitVec 32 := 8#32
  let v176 : BitVec 32 := Scalar.muli v2 c8_i32_123
  let v177 : BitVec 32 := Scalar.addi c0_i32_124 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v178 : BitVec 32 := Scalar.muli v5 c4_i32_125
  let v179 : BitVec 32 := Scalar.addi v177 v178
  let c1_i32_126 : BitVec 32 := 1#32
  let v180 : BitVec 32 := Scalar.muli v10 c1_i32_126
  let v181 : BitVec 32 := Scalar.addi v179 v180
  v181.toNat

def k0_chk2 (d0 : Dev nD) (v10 : BitVec 32) : Prop :=
  ((k0_dev2 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD) ∧
  ((k0_dev13 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev6_lt : ∀ (d0 : Dev nD) (v10 : BitVec 32) (k0_hw2 : k0_chk2 d0 v10), (k0_dev6 d0 v10) < nD := fun d0 v10 k0_hw2 => k0_hw2.2.1
theorem k0_dev7_lt : ∀ (d0 : Dev nD) (v10 : BitVec 32) (k0_hw2 : k0_chk2 d0 v10), (k0_dev7 d0 v10) < nD := fun d0 v10 k0_hw2 => k0_hw2.2.2.1
theorem k0_dev8_lt : ∀ (d0 : Dev nD) (v10 : BitVec 32) (k0_hw2 : k0_chk2 d0 v10), (k0_dev8 d0 v10) < nD := fun d0 v10 k0_hw2 => k0_hw2.2.2.2.1
theorem k0_dev9_lt : ∀ (d0 : Dev nD) (v10 : BitVec 32) (k0_hw2 : k0_chk2 d0 v10), (k0_dev9 d0 v10) < nD := fun d0 v10 k0_hw2 => k0_hw2.2.2.2.2.1
theorem k0_dev10_lt : ∀ (d0 : Dev nD) (v10 : BitVec 32) (k0_hw2 : k0_chk2 d0 v10), (k0_dev10 d0 v10) < nD := fun d0 v10 k0_hw2 => k0_hw2.2.2.2.2.2.1
theorem k0_dev11_lt : ∀ (d0 : Dev nD) (v10 : BitVec 32) (k0_hw2 : k0_chk2 d0 v10), (k0_dev11 d0 v10) < nD := fun d0 v10 k0_hw2 => k0_hw2.2.2.2.2.2.2.1
theorem k0_dev12_lt : ∀ (d0 : Dev nD) (v10 : BitVec 32) (k0_hw2 : k0_chk2 d0 v10), (k0_dev12 d0 v10) < nD := fun d0 v10 k0_hw2 => k0_hw2.2.2.2.2.2.2.2.1
theorem k0_dev13_lt : ∀ (d0 : Dev nD) (v10 : BitVec 32) (k0_hw2 : k0_chk2 d0 v10), (k0_dev13 d0 v10) < nD := fun d0 v10 k0_hw2 => k0_hw2.2.2.2.2.2.2.2.2

def k0_dev14 (d0 : Dev nD) : Nat :=
  let c0_i32_153 : BitVec 32 := 0#32
  let c1_i32_130 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v189 : BitVec 32 := Scalar.subi c1_i32_130 v2
  let c8_i32_152 : BitVec 32 := 8#32
  let v208 : BitVec 32 := Scalar.muli v189 c8_i32_152
  let v209 : BitVec 32 := Scalar.addi c0_i32_153 v208
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_154 : BitVec 32 := 4#32
  let v210 : BitVec 32 := Scalar.muli v5 c4_i32_154
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v212 : BitVec 32 := Scalar.muli v8 c1_i32_155
  let v213 : BitVec 32 := Scalar.addi v211 v212
  v213.toNat
def k0_dev15 (d0 : Dev nD) : Nat :=
  let c0_i32_167 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_166 : BitVec 32 := 8#32
  let v226 : BitVec 32 := Scalar.muli v2 c8_i32_166
  let v227 : BitVec 32 := Scalar.addi c0_i32_167 v226
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v190 : BitVec 32 := Scalar.subi c1_i32_131 v5
  let c4_i32_168 : BitVec 32 := 4#32
  let v228 : BitVec 32 := Scalar.muli v190 c4_i32_168
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v230 : BitVec 32 := Scalar.muli v8 c1_i32_169
  let v231 : BitVec 32 := Scalar.addi v229 v230
  v231.toNat
def k0_dev16 (d0 : Dev nD) : Nat :=
  let c0_i32_181 : BitVec 32 := 0#32
  let c1_i32_132 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v191 : BitVec 32 := Scalar.subi c1_i32_132 v2
  let c8_i32_180 : BitVec 32 := 8#32
  let v244 : BitVec 32 := Scalar.muli v191 c8_i32_180
  let v245 : BitVec 32 := Scalar.addi c0_i32_181 v244
  let c1_i32_133 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v192 : BitVec 32 := Scalar.subi c1_i32_133 v5
  let c4_i32_182 : BitVec 32 := 4#32
  let v246 : BitVec 32 := Scalar.muli v192 c4_i32_182
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v248 : BitVec 32 := Scalar.muli v8 c1_i32_183
  let v249 : BitVec 32 := Scalar.addi v247 v248
  v249.toNat
def k0_dev17 (d0 : Dev nD) : Nat :=
  let c0_i32_205 : BitVec 32 := 0#32
  let c1_i32_130 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v189 : BitVec 32 := Scalar.subi c1_i32_130 v2
  let c8_i32_204 : BitVec 32 := 8#32
  let v273 : BitVec 32 := Scalar.muli v189 c8_i32_204
  let v274 : BitVec 32 := Scalar.addi c0_i32_205 v273
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v275 : BitVec 32 := Scalar.muli v5 c4_i32_206
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v277 : BitVec 32 := Scalar.muli v8 c1_i32_207
  let v278 : BitVec 32 := Scalar.addi v276 v277
  v278.toNat
def k0_dev18 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_218 : BitVec 32 := 8#32
  let v291 : BitVec 32 := Scalar.muli v2 c8_i32_218
  let v292 : BitVec 32 := Scalar.addi c0_i32_219 v291
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v190 : BitVec 32 := Scalar.subi c1_i32_131 v5
  let c4_i32_220 : BitVec 32 := 4#32
  let v293 : BitVec 32 := Scalar.muli v190 c4_i32_220
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_221 : BitVec 32 := 1#32
  let v295 : BitVec 32 := Scalar.muli v8 c1_i32_221
  let v296 : BitVec 32 := Scalar.addi v294 v295
  v296.toNat
def k0_dev19 (d0 : Dev nD) : Nat :=
  let c0_i32_233 : BitVec 32 := 0#32
  let c1_i32_132 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v191 : BitVec 32 := Scalar.subi c1_i32_132 v2
  let c8_i32_232 : BitVec 32 := 8#32
  let v309 : BitVec 32 := Scalar.muli v191 c8_i32_232
  let v310 : BitVec 32 := Scalar.addi c0_i32_233 v309
  let c1_i32_133 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v192 : BitVec 32 := Scalar.subi c1_i32_133 v5
  let c4_i32_234 : BitVec 32 := 4#32
  let v311 : BitVec 32 := Scalar.muli v192 c4_i32_234
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v313 : BitVec 32 := Scalar.muli v8 c1_i32_235
  let v314 : BitVec 32 := Scalar.addi v312 v313
  v314.toNat
def k0_dev20 (d0 : Dev nD) : Nat :=
  let c0_i32_257 : BitVec 32 := 0#32
  let c1_i32_130 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v189 : BitVec 32 := Scalar.subi c1_i32_130 v2
  let c8_i32_256 : BitVec 32 := 8#32
  let v338 : BitVec 32 := Scalar.muli v189 c8_i32_256
  let v339 : BitVec 32 := Scalar.addi c0_i32_257 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_258 : BitVec 32 := 4#32
  let v340 : BitVec 32 := Scalar.muli v5 c4_i32_258
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v342 : BitVec 32 := Scalar.muli v8 c1_i32_259
  let v343 : BitVec 32 := Scalar.addi v341 v342
  v343.toNat
def k0_dev21 (d0 : Dev nD) : Nat :=
  let c0_i32_271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_270 : BitVec 32 := 8#32
  let v356 : BitVec 32 := Scalar.muli v2 c8_i32_270
  let v357 : BitVec 32 := Scalar.addi c0_i32_271 v356
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v190 : BitVec 32 := Scalar.subi c1_i32_131 v5
  let c4_i32_272 : BitVec 32 := 4#32
  let v358 : BitVec 32 := Scalar.muli v190 c4_i32_272
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v360 : BitVec 32 := Scalar.muli v8 c1_i32_273
  let v361 : BitVec 32 := Scalar.addi v359 v360
  v361.toNat
def k0_dev22 (d0 : Dev nD) : Nat :=
  let c0_i32_285 : BitVec 32 := 0#32
  let c1_i32_132 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v191 : BitVec 32 := Scalar.subi c1_i32_132 v2
  let c8_i32_284 : BitVec 32 := 8#32
  let v374 : BitVec 32 := Scalar.muli v191 c8_i32_284
  let v375 : BitVec 32 := Scalar.addi c0_i32_285 v374
  let c1_i32_133 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v192 : BitVec 32 := Scalar.subi c1_i32_133 v5
  let c4_i32_286 : BitVec 32 := 4#32
  let v376 : BitVec 32 := Scalar.muli v192 c4_i32_286
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v378 : BitVec 32 := Scalar.muli v8 c1_i32_287
  let v379 : BitVec 32 := Scalar.addi v377 v378
  v379.toNat
def k0_dev23 (d0 : Dev nD) : Nat :=
  let c0_i32_309 : BitVec 32 := 0#32
  let c1_i32_130 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v189 : BitVec 32 := Scalar.subi c1_i32_130 v2
  let c8_i32_308 : BitVec 32 := 8#32
  let v403 : BitVec 32 := Scalar.muli v189 c8_i32_308
  let v404 : BitVec 32 := Scalar.addi c0_i32_309 v403
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_310 : BitVec 32 := 4#32
  let v405 : BitVec 32 := Scalar.muli v5 c4_i32_310
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v407 : BitVec 32 := Scalar.muli v8 c1_i32_311
  let v408 : BitVec 32 := Scalar.addi v406 v407
  v408.toNat
def k0_dev24 (d0 : Dev nD) : Nat :=
  let c0_i32_323 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_322 : BitVec 32 := 8#32
  let v421 : BitVec 32 := Scalar.muli v2 c8_i32_322
  let v422 : BitVec 32 := Scalar.addi c0_i32_323 v421
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v190 : BitVec 32 := Scalar.subi c1_i32_131 v5
  let c4_i32_324 : BitVec 32 := 4#32
  let v423 : BitVec 32 := Scalar.muli v190 c4_i32_324
  let v424 : BitVec 32 := Scalar.addi v422 v423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v425 : BitVec 32 := Scalar.muli v8 c1_i32_325
  let v426 : BitVec 32 := Scalar.addi v424 v425
  v426.toNat
def k0_dev25 (d0 : Dev nD) : Nat :=
  let c0_i32_337 : BitVec 32 := 0#32
  let c1_i32_132 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v191 : BitVec 32 := Scalar.subi c1_i32_132 v2
  let c8_i32_336 : BitVec 32 := 8#32
  let v439 : BitVec 32 := Scalar.muli v191 c8_i32_336
  let v440 : BitVec 32 := Scalar.addi c0_i32_337 v439
  let c1_i32_133 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v192 : BitVec 32 := Scalar.subi c1_i32_133 v5
  let c4_i32_338 : BitVec 32 := 4#32
  let v441 : BitVec 32 := Scalar.muli v192 c4_i32_338
  let v442 : BitVec 32 := Scalar.addi v440 v441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v443 : BitVec 32 := Scalar.muli v8 c1_i32_339
  let v444 : BitVec 32 := Scalar.addi v442 v443
  v444.toNat
def k0_dev26 (d0 : Dev nD) : Nat :=
  let c0_i32_361 : BitVec 32 := 0#32
  let c1_i32_130 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v189 : BitVec 32 := Scalar.subi c1_i32_130 v2
  let c8_i32_360 : BitVec 32 := 8#32
  let v468 : BitVec 32 := Scalar.muli v189 c8_i32_360
  let v469 : BitVec 32 := Scalar.addi c0_i32_361 v468
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_362 : BitVec 32 := 4#32
  let v470 : BitVec 32 := Scalar.muli v5 c4_i32_362
  let v471 : BitVec 32 := Scalar.addi v469 v470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v472 : BitVec 32 := Scalar.muli v8 c1_i32_363
  let v473 : BitVec 32 := Scalar.addi v471 v472
  v473.toNat
def k0_dev27 (d0 : Dev nD) : Nat :=
  let c0_i32_375 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_374 : BitVec 32 := 8#32
  let v486 : BitVec 32 := Scalar.muli v2 c8_i32_374
  let v487 : BitVec 32 := Scalar.addi c0_i32_375 v486
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v190 : BitVec 32 := Scalar.subi c1_i32_131 v5
  let c4_i32_376 : BitVec 32 := 4#32
  let v488 : BitVec 32 := Scalar.muli v190 c4_i32_376
  let v489 : BitVec 32 := Scalar.addi v487 v488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v490 : BitVec 32 := Scalar.muli v8 c1_i32_377
  let v491 : BitVec 32 := Scalar.addi v489 v490
  v491.toNat
def k0_dev28 (d0 : Dev nD) : Nat :=
  let c0_i32_389 : BitVec 32 := 0#32
  let c1_i32_132 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v191 : BitVec 32 := Scalar.subi c1_i32_132 v2
  let c8_i32_388 : BitVec 32 := 8#32
  let v504 : BitVec 32 := Scalar.muli v191 c8_i32_388
  let v505 : BitVec 32 := Scalar.addi c0_i32_389 v504
  let c1_i32_133 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v192 : BitVec 32 := Scalar.subi c1_i32_133 v5
  let c4_i32_390 : BitVec 32 := 4#32
  let v506 : BitVec 32 := Scalar.muli v192 c4_i32_390
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_391 : BitVec 32 := 1#32
  let v508 : BitVec 32 := Scalar.muli v8 c1_i32_391
  let v509 : BitVec 32 := Scalar.addi v507 v508
  v509.toNat
def k0_dev29 (d0 : Dev nD) : Nat :=
  let c0_i32_413 : BitVec 32 := 0#32
  let c1_i32_130 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v189 : BitVec 32 := Scalar.subi c1_i32_130 v2
  let c8_i32_412 : BitVec 32 := 8#32
  let v533 : BitVec 32 := Scalar.muli v189 c8_i32_412
  let v534 : BitVec 32 := Scalar.addi c0_i32_413 v533
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v535 : BitVec 32 := Scalar.muli v5 c4_i32_414
  let v536 : BitVec 32 := Scalar.addi v534 v535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v537 : BitVec 32 := Scalar.muli v8 c1_i32_415
  let v538 : BitVec 32 := Scalar.addi v536 v537
  v538.toNat
def k0_dev30 (d0 : Dev nD) : Nat :=
  let c0_i32_427 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_426 : BitVec 32 := 8#32
  let v551 : BitVec 32 := Scalar.muli v2 c8_i32_426
  let v552 : BitVec 32 := Scalar.addi c0_i32_427 v551
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v190 : BitVec 32 := Scalar.subi c1_i32_131 v5
  let c4_i32_428 : BitVec 32 := 4#32
  let v553 : BitVec 32 := Scalar.muli v190 c4_i32_428
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v555 : BitVec 32 := Scalar.muli v8 c1_i32_429
  let v556 : BitVec 32 := Scalar.addi v554 v555
  v556.toNat
def k0_dev31 (d0 : Dev nD) : Nat :=
  let c0_i32_441 : BitVec 32 := 0#32
  let c1_i32_132 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v191 : BitVec 32 := Scalar.subi c1_i32_132 v2
  let c8_i32_440 : BitVec 32 := 8#32
  let v569 : BitVec 32 := Scalar.muli v191 c8_i32_440
  let v570 : BitVec 32 := Scalar.addi c0_i32_441 v569
  let c1_i32_133 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v192 : BitVec 32 := Scalar.subi c1_i32_133 v5
  let c4_i32_442 : BitVec 32 := 4#32
  let v571 : BitVec 32 := Scalar.muli v192 c4_i32_442
  let v572 : BitVec 32 := Scalar.addi v570 v571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v573 : BitVec 32 := Scalar.muli v8 c1_i32_443
  let v574 : BitVec 32 := Scalar.addi v572 v573
  v574.toNat
def k0_dev32 (d0 : Dev nD) : Nat :=
  let c0_i32_465 : BitVec 32 := 0#32
  let c1_i32_130 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v189 : BitVec 32 := Scalar.subi c1_i32_130 v2
  let c8_i32_464 : BitVec 32 := 8#32
  let v598 : BitVec 32 := Scalar.muli v189 c8_i32_464
  let v599 : BitVec 32 := Scalar.addi c0_i32_465 v598
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_466 : BitVec 32 := 4#32
  let v600 : BitVec 32 := Scalar.muli v5 c4_i32_466
  let v601 : BitVec 32 := Scalar.addi v599 v600
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_467 : BitVec 32 := 1#32
  let v602 : BitVec 32 := Scalar.muli v8 c1_i32_467
  let v603 : BitVec 32 := Scalar.addi v601 v602
  v603.toNat
def k0_dev33 (d0 : Dev nD) : Nat :=
  let c0_i32_479 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_478 : BitVec 32 := 8#32
  let v616 : BitVec 32 := Scalar.muli v2 c8_i32_478
  let v617 : BitVec 32 := Scalar.addi c0_i32_479 v616
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v190 : BitVec 32 := Scalar.subi c1_i32_131 v5
  let c4_i32_480 : BitVec 32 := 4#32
  let v618 : BitVec 32 := Scalar.muli v190 c4_i32_480
  let v619 : BitVec 32 := Scalar.addi v617 v618
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_481 : BitVec 32 := 1#32
  let v620 : BitVec 32 := Scalar.muli v8 c1_i32_481
  let v621 : BitVec 32 := Scalar.addi v619 v620
  v621.toNat
def k0_dev34 (d0 : Dev nD) : Nat :=
  let c0_i32_493 : BitVec 32 := 0#32
  let c1_i32_132 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v191 : BitVec 32 := Scalar.subi c1_i32_132 v2
  let c8_i32_492 : BitVec 32 := 8#32
  let v634 : BitVec 32 := Scalar.muli v191 c8_i32_492
  let v635 : BitVec 32 := Scalar.addi c0_i32_493 v634
  let c1_i32_133 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v192 : BitVec 32 := Scalar.subi c1_i32_133 v5
  let c4_i32_494 : BitVec 32 := 4#32
  let v636 : BitVec 32 := Scalar.muli v192 c4_i32_494
  let v637 : BitVec 32 := Scalar.addi v635 v636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_495 : BitVec 32 := 1#32
  let v638 : BitVec 32 := Scalar.muli v8 c1_i32_495
  let v639 : BitVec 32 := Scalar.addi v637 v638
  v639.toNat
def k0_dev35 (d0 : Dev nD) : Nat :=
  let c0_i32_517 : BitVec 32 := 0#32
  let c1_i32_130 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v189 : BitVec 32 := Scalar.subi c1_i32_130 v2
  let c8_i32_516 : BitVec 32 := 8#32
  let v663 : BitVec 32 := Scalar.muli v189 c8_i32_516
  let v664 : BitVec 32 := Scalar.addi c0_i32_517 v663
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_518 : BitVec 32 := 4#32
  let v665 : BitVec 32 := Scalar.muli v5 c4_i32_518
  let v666 : BitVec 32 := Scalar.addi v664 v665
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_519 : BitVec 32 := 1#32
  let v667 : BitVec 32 := Scalar.muli v8 c1_i32_519
  let v668 : BitVec 32 := Scalar.addi v666 v667
  v668.toNat
def k0_dev36 (d0 : Dev nD) : Nat :=
  let c0_i32_531 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_530 : BitVec 32 := 8#32
  let v681 : BitVec 32 := Scalar.muli v2 c8_i32_530
  let v682 : BitVec 32 := Scalar.addi c0_i32_531 v681
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v190 : BitVec 32 := Scalar.subi c1_i32_131 v5
  let c4_i32_532 : BitVec 32 := 4#32
  let v683 : BitVec 32 := Scalar.muli v190 c4_i32_532
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_533 : BitVec 32 := 1#32
  let v685 : BitVec 32 := Scalar.muli v8 c1_i32_533
  let v686 : BitVec 32 := Scalar.addi v684 v685
  v686.toNat
def k0_dev37 (d0 : Dev nD) : Nat :=
  let c0_i32_545 : BitVec 32 := 0#32
  let c1_i32_132 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v191 : BitVec 32 := Scalar.subi c1_i32_132 v2
  let c8_i32_544 : BitVec 32 := 8#32
  let v699 : BitVec 32 := Scalar.muli v191 c8_i32_544
  let v700 : BitVec 32 := Scalar.addi c0_i32_545 v699
  let c1_i32_133 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v192 : BitVec 32 := Scalar.subi c1_i32_133 v5
  let c4_i32_546 : BitVec 32 := 4#32
  let v701 : BitVec 32 := Scalar.muli v192 c4_i32_546
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v703 : BitVec 32 := Scalar.muli v8 c1_i32_547
  let v704 : BitVec 32 := Scalar.addi v702 v703
  v704.toNat
def k0_dev38 (d0 : Dev nD) (v11 : BitVec 32) (v14 : BitVec 32) (v17 : BitVec 32) (v20 : BitVec 32) : Nat :=
  let c0_i32_552 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_551 : BitVec 32 := 8#32
  let v713 : BitVec 32 := Scalar.muli v2 c8_i32_551
  let v714 : BitVec 32 := Scalar.addi c0_i32_552 v713
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_553 : BitVec 32 := 4#32
  let v715 : BitVec 32 := Scalar.muli v5 c4_i32_553
  let v716 : BitVec 32 := Scalar.addi v714 v715
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32_2 : BitVec 32 := 0#32
  let c0_i32 : BitVec 32 := 0#32
  let v13 : BitVec 32 := Scalar.select v12 c0_i32_2 c0_i32
  let v16 : BitVec 32 := Scalar.select v15 c1_i32_3 v13
  let v19 : BitVec 32 := Scalar.select v18 c2_i32_4 v16
  let v22 : BitVec 32 := Scalar.select v21 c3_i32 v19
  let c1_i32_554 : BitVec 32 := 1#32
  let v717 : BitVec 32 := Scalar.muli v22 c1_i32_554
  let v718 : BitVec 32 := Scalar.addi v716 v717
  v718.toNat

def k0_chk1 (d0 : Dev nD) (v11 : BitVec 32) (v14 : BitVec 32) (v17 : BitVec 32) (v20 : BitVec 32) : Prop :=
  ((k0_dev1 d0 v11 v14 v17 v20) < nD) ∧
  ((k0_dev38 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1.1
theorem k0_dev38_lt : ∀ (d0 : Dev nD) (v11 : BitVec 32) (v14 : BitVec 32) (v17 : BitVec 32) (v20 : BitVec 32) (k0_hw1 : k0_chk1 d0 v11 v14 v17 v20), (k0_dev38 d0 v11 v14 v17 v20) < nD := fun d0 v11 v14 v17 v20 k0_hw1 => k0_hw1.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x1024 : Shape := ⟨3, ![4, 1024, 1024]⟩
abbrev S4 : Shape := ⟨1, ![4]⟩
abbrev S_ : Shape := ⟨0, ![]⟩
abbrev S4x1 : Shape := ⟨2, ![4, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x1024x1024, .bf16⟩
  | .hbm, ⟨14, _⟩ => ⟨S4x1024x1024, .f32⟩
  | .hbm, ⟨15, _⟩ => ⟨S4x1024x1024, .bf16⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Mesh.lean ====
/-
# The mesh: sixteen devices in a 2 × 2 × 4 box, and who talks to whom

Device `c` stands at `(dX c, dY c, dZ c)`. A table `p` (a permutation of the four positions on the `z` axis) says where
each slab goes: the device at `z` sends to the device of the same column at `p z`. Besides that each device talks to the
three other devices of its plane (the same `z`): across `x`, across `y`, across both.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Scf

@[expose] public section

noncomputable section

namespace Cert.Permute

open Cert.KernelIdeal Cert.KernelIdeal.Gen
open Idealize.ShloMosaic

/-! ## Coordinates -/

/-- The device at `(x, y, z)`. -/
def mk (x y : Fin 2) (z : Fin 4) : Dev nD := ⟨8 * x.val + 4 * y.val + z.val, by
  show _ < 16; omega⟩
/-- A device's three coordinates. -/
def dX (c : Dev nD) : Fin 2 := ⟨c.val / 8, by
  have h : c.val < 16 := c.isLt
  omega⟩
def dY (c : Dev nD) : Fin 2 := ⟨c.val / 4 % 2, by omega⟩
def dZ (c : Dev nD) : Fin 4 := ⟨c.val % 4, by omega⟩

theorem dX_mk (x y : Fin 2) (z : Fin 4) : dX (mk x y z) = x := by revert x y z; decide
theorem dY_mk (x y : Fin 2) (z : Fin 4) : dY (mk x y z) = y := by revert x y z; decide
theorem dZ_mk (x y : Fin 2) (z : Fin 4) : dZ (mk x y z) = z := by revert x y z; decide
theorem mk_eta (c : Dev nD) : mk (dX c) (dY c) (dZ c) = c := by revert c; decide

/-! ## The four partners of a device -/

/-- Along the column, by the table `p`. -/
def zPeer (p : Equiv.Perm (Fin 4)) : Equiv.Perm (Dev nD) where
  toFun c := mk (dX c) (dY c) (p (dZ c))
  invFun c := mk (dX c) (dY c) (p.symm (dZ c))
  left_inv c := by simp only [dX_mk, dY_mk, dZ_mk, Equiv.symm_apply_apply, mk_eta]
  right_inv c := by simp only [dX_mk, dY_mk, dZ_mk, Equiv.apply_symm_apply, mk_eta]

/-- Within the plane: across `x` (if `a`), across `y` (if `b`). -/
def planeFun (a b : Bool) (c : Dev nD) : Dev nD := mk (if a then 1 - dX c else dX c) (if b then 1 - dY c else dY c) (dZ c)
theorem planeFun_invol (a b : Bool) : Function.Involutive (planeFun a b) := by
  unfold Function.Involutive; revert a b; decide
def planePeer (a b : Bool) : Equiv.Perm (Dev nD) := (planeFun_invol a b).toPerm

/-- The partner a device transfers to over the `k`-th pair of semaphore arrays: `0` along the column, `1` across `x`,
    `2` across `y`, `3` across both. -/
def peer (p : Equiv.Perm (Fin 4)) (k : Fin 4) : Equiv.Perm (Dev nD) :=
  match k with
  | 0 => zPeer p
  | 1 => planePeer true false
  | 2 => planePeer false true
  | 3 => planePeer true true

theorem peer_zero (p : Equiv.Perm (Fin 4)) (c : Dev nD) : peer p 0 c = mk (dX c) (dY c) (p (dZ c)) := rfl
theorem peer_zero_symm (p : Equiv.Perm (Fin 4)) (c : Dev nD) : (peer p 0).symm c = mk (dX c) (dY c) (p.symm (dZ c)) := rfl
theorem peer_plane_symm (p : Equiv.Perm (Fin 4)) (k : Fin 4) (hk : k ≠ 0) : (peer p k).symm = peer p k := by
  fin_cases k
  · exact absurd rfl hk
  all_goals rfl
theorem dZ_planeFun (a b : Bool) (c : Dev nD) : dZ (planeFun a b c) = dZ c := by revert a b c; decide
/-- A plane partner has the same `z`. -/
theorem dZ_peer (p : Equiv.Perm (Fin 4)) (k : Fin 4) (hk : k ≠ 0) (c : Dev nD) : dZ (peer p k c) = dZ c := by
  fin_cases k
  · exact absurd rfl hk
  all_goals exact dZ_planeFun _ _ c

/-! ## The devices the kernel's transfers and signals name -/

theorem plane_x : ∀ c : Dev nD, k0_dev3 c = (planeFun true false c).val := by decide +kernel
theorem plane_y : ∀ c : Dev nD, k0_dev4 c = (planeFun false true c).val := by decide +kernel
theorem plane_d : ∀ c : Dev nD, k0_dev5 c = (planeFun true true c).val := by decide +kernel

/-- The column transfers name the device at the word read from the table. -/
theorem col_dev : ∀ (c : Dev nD) (w : Fin 4), k0_dev2 c (BitVec.ofNat 32 w.val) = (mk (dX c) (dY c) w).val := by decide +kernel

/-- The column's chain of comparisons picks the position the table sends here. -/
theorem select_chain : ∀ (a b d e : Fin 4), (a ≠ b ∧ a ≠ d ∧ a ≠ e ∧ b ≠ d ∧ b ≠ e ∧ d ≠ e) → ∀ (c : Dev nD) (s : Fin 4),
    ![a, b, d, e] s = dZ c →
    k0_dev1 c (BitVec.ofNat 32 a.val) (BitVec.ofNat 32 b.val) (BitVec.ofNat 32 d.val) (BitVec.ofNat 32 e.val)
      = (mk (dX c) (dY c) s).val := by decide +kernel

/-- The word the table `p` holds at `i`. -/
abbrev tw (p : Equiv.Perm (Fin 4)) (i : Fin 4) : BitVec 32 := BitVec.ofNat 32 (p i).val

/-- The device the first signal and the last name: the column device whose slab comes here. -/
theorem src_dev (p : Equiv.Perm (Fin 4)) (c : Dev nD) :
    k0_dev1 c (tw p 0) (tw p 1) (tw p 2) (tw p 3) = ((peer p 0).symm c).val := by
  have hne : ∀ i j : Fin 4, i ≠ j → p i ≠ p j := fun i j h h' => h (p.injective h')
  refine select_chain (p 0) (p 1) (p 2) (p 3) ⟨hne _ _ (by decide), hne _ _ (by decide), hne _ _ (by decide),
    hne _ _ (by decide), hne _ _ (by decide), hne _ _ (by decide)⟩ c (p.symm (dZ c)) ?_
  have h : ∀ s : Fin 4, ![p 0, p 1, p 2, p 3] s = p s := by intro s; fin_cases s <;> rfl
  rw [h, Equiv.apply_symm_apply]

/-- The word read at the device's own position. -/
theorem dst_dev (p : Equiv.Perm (Fin 4)) (c : Dev nD) : k0_dev2 c (tw p (dZ c)) = (peer p 0 c).val := col_dev c (p (dZ c))

/-- Every device the word names is one of the mesh's. -/
theorem chk2 (p : Equiv.Perm (Fin 4)) (c : Dev nD) : k0_chk2 c (tw p (dZ c)) := by
  have h : k0_dev2 c (tw p (dZ c)) < nD := by rw [dst_dev]; exact (peer p 0 c).isLt
  exact ⟨h, h, h, h, h, h, h, h, h⟩

end Cert.Permute

end
-- ==== Proof.Views.lean ====
/-
# What each transfer reads and writes, and the contents

The result buffer of a device is thirty-two chunks of 32 rows: four quarters of eight. Quarter `2x + y` is the one the
devices at `(x, y)` deal with. This module names the memrefs the kernel forms, says which rows they are, and what the
buffers hold once the slab has arrived.
-/
module

public import proofs.«01_k».proof.Proof.Mesh
public import Idealize.ShloMosaic.Lib.Ring
public import Idealize.ShloMosaic.Lib.Ring.Trips
public import Idealize.ShloMosaic.Lib.ValueLayout

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs -/

abbrev inpM : Memref sig .tc .hbm S1x1024x1024 .bf16 := Memref.whole main_arg0
abbrev outM : Memref sig .tc .hbm S1x1024x1024 .bf16 := Memref.whole main_v1
abbrev qbM : Memref sig .tc .vmem S256x1024 .bf16 := Memref.whole cc0_scratch0
abbrev sbM : Memref sig .tc .vmem S256x1024 .bf16 := Memref.whole cc0_scratch1

/-- The word a chunk's row offset is computed from. -/
abbrev chW (j : Fin 8) : BitVec 32 := BitVec.ofNat 32 (32 * j.val)

/-- Device `c`'s quarter of its input slab. -/
def xQ (c : Dev nD) : Memref sig .tc .hbm S256x1024 .bf16 :=
  (inpM.slice (Rect.unit (s := S1x1024x1024) (k0_off2 c) S1x256x1024.size (k0_off2_inb c)) (fun _ => rfl)).squeeze S256x1024 squeezes_S1x256x1024_S256x1024

/-- The `j`-th chunk of the quarter of device `c`, in a result buffer. -/
def oC (c : Dev nD) (j : Fin 8) : Memref sig .tc .hbm S32x1024 .bf16 :=
  (outM.slice (Rect.unit (s := S1x1024x1024) (k0_off4 c (chW j)) S1x32x1024.size (k0_off4_inb c j)) (fun _ => rfl)).squeeze S32x1024 squeezes_S1x32x1024_S32x1024

theorem sC_inb : ∀ (j : Fin 8) (a : Fin 2), (![32 * j.val, 0] : Fin 2 → ℕ) a + S32x1024.size a ≤ S256x1024.size a := by decide

/-- The `j`-th chunk of the send buffer. -/
def sC (j : Fin 8) : Memref sig .tc .vmem S32x1024 .bf16 :=
  sbM.slice (Rect.unit (s := S256x1024) ![32 * j.val, 0] S32x1024.size (sC_inb j)) (fun _ => rfl)

/-- What a chunk's transfer pays a semaphore, and what the first local copy pays. -/
def NC : ℕ := (oC 0 0).view.dmaCredit
def NL : ℕ := qbM.view.dmaCredit
theorem NC_pos : 0 < NC := View.dmaCredit_pos _ (by decide)
theorem NL_pos : 0 < NL := View.dmaCredit_pos _ (by decide)
theorem oC_credit (c : Dev nD) (j : Fin 8) : (oC c j).view.dmaCredit = NC := rfl
theorem sC_credit (j : Fin 8) : (sC j).view.dmaCredit = NC := rfl

/-- The elements of the result buffer, and of the send buffer, a chunk is. -/
def cset (c : Dev nD) (j : Fin 8) : Finset S1x1024x1024.Idx := (oC c j).view.set
def sset (j : Fin 8) : Finset S256x1024.Idx := (sC j).view.set

theorem cset_eq (c : Dev nD) (j : Fin 8) :
    cset c j = (Rect.unit (s := S1x1024x1024) (k0_off4 c (chW j)) S1x32x1024.size (k0_off4_inb c j)).set :=
  (View.set_reshape _ _).trans (View.set_slice_whole main_v1 _)
theorem sset_eq (j : Fin 8) : sset j = (Rect.unit (s := S256x1024) ![32 * j.val, 0] S32x1024.size (sC_inb j)).set :=
  View.set_slice_whole cc0_scratch1 _

/-! ## The rows -/

/-- A chunk is one block of 32 rows. -/
theorem oC_mem (c : Dev nD) (j : Fin 8) (i : S1x1024x1024.Idx) :
    i ∈ cset c j ↔ (i 1).val / 32 = 16 * (c.val / 8) + 8 * (c.val / 4 % 2) + j.val := by
  rw [cset_eq, Rect.mem_set_unit, k0_off4_eq]
  have h0 : (i 0).val < 1 := (i 0).isLt
  have h1 : (i 1).val < 1024 := (i 1).isLt
  have h2 : (i 2).val < 1024 := (i 2).isLt
  have hj := j.isLt
  constructor
  · intro h
    have h := h 1
    have ha : 512 * (c.val / 8) + 256 * (c.val / 4 % 2) + 32 * j.val ≤ (i 1).val := h.1
    have hb : (i 1).val < 512 * (c.val / 8) + 256 * (c.val / 4 % 2) + 32 * j.val + 32 := h.2
    omega
  · intro h a
    fin_cases a
    · exact ⟨Nat.zero_le _, by show (i 0).val < 0 + 1; omega⟩
    · exact ⟨by show 512 * (c.val / 8) + 256 * (c.val / 4 % 2) + 32 * j.val ≤ (i 1).val; omega,
        by show (i 1).val < 512 * (c.val / 8) + 256 * (c.val / 4 % 2) + 32 * j.val + 32; omega⟩
    · exact ⟨Nat.zero_le _, by show (i 2).val < 0 + 1024; omega⟩

/-- The chunks of the send buffer likewise. -/
theorem sC_mem (j : Fin 8) (i : S256x1024.Idx) : i ∈ sset j ↔ (i 0).val / 32 = j.val := by
  rw [sset_eq, Rect.mem_set_unit]
  have h0 : (i 0).val < 256 := (i 0).isLt
  have h1 : (i 1).val < 1024 := (i 1).isLt
  have hj := j.isLt
  constructor
  · intro h
    have h := h 0
    have ha : 32 * j.val ≤ (i 0).val := h.1
    have hb : (i 0).val < 32 * j.val + 32 := h.2
    omega
  · intro h a
    fin_cases a
    · exact ⟨by show 32 * j.val ≤ (i 0).val; omega, by show (i 0).val < 32 * j.val + 32; omega⟩
    · exact ⟨Nat.zero_le _, by show (i 1).val < 0 + 1024; omega⟩

/-- The chunk a device receives over pair `k` at position `j`: its place in the result buffer. -/
abbrev landing (p : Equiv.Perm (Fin 4)) (c : Dev nD) (x : Fin 4 × Fin 8) : Finset S1x1024x1024.Idx := cset ((peer p x.1).symm c) x.2

/-- Which block of 32 rows that is. -/
def blockNo (c : Dev nD) (x : Fin 4 × Fin 8) : ℕ :=
  16 * ((peer (Equiv.refl _) x.1 c).val / 8) + 8 * ((peer (Equiv.refl _) x.1 c).val / 4 % 2) + x.2.val
theorem blockNo_inj : ∀ (c : Dev nD) (x y : Fin 4 × Fin 8), blockNo c x = blockNo c y → x = y := by decide +kernel
theorem blockNo_surj : ∀ (c : Dev nD) (n : Fin 32), ∃ x, blockNo c x = n.val := by decide +kernel

theorem mk_col (x y : Fin 2) (z z' : Fin 4) : (mk x y z).val / 8 = (mk x y z').val / 8 ∧ (mk x y z).val / 4 % 2 = (mk x y z').val / 4 % 2 := by
  revert x y z z'; decide

theorem landing_block (p : Equiv.Perm (Fin 4)) (c : Dev nD) (x : Fin 4 × Fin 8) (i : S1x1024x1024.Idx) :
    i ∈ landing p c x ↔ (i 1).val / 32 = blockNo c x := by
  rw [oC_mem]
  obtain ⟨k, j⟩ := x
  unfold blockNo
  fin_cases k
  · have h := mk_col (dX c) (dY c) (p.symm (dZ c)) (dZ c)
    show _ = 16 * ((mk (dX c) (dY c) (p.symm (dZ c))).val / 8) + 8 * ((mk (dX c) (dY c) (p.symm (dZ c))).val / 4 % 2) + _ ↔
      _ = 16 * ((mk (dX c) (dY c) (dZ c)).val / 8) + 8 * ((mk (dX c) (dY c) (dZ c)).val / 4 % 2) + _
    rw [h.1, h.2]
  all_goals rfl

theorem landing_disjoint (p : Equiv.Perm (Fin 4)) (c : Dev nD) (x y : Fin 4 × Fin 8) (h : x ≠ y) :
    Disjoint (landing p c x) (landing p c y) := by
  rw [Finset.disjoint_left]
  intro i hx hy
  exact h (blockNo_inj c x y (((landing_block p c x i).mp hx).symm.trans ((landing_block p c y i).mp hy)))

theorem landing_cover (p : Equiv.Perm (Fin 4)) (c : Dev nD) :
    (Finset.univ : Finset (Fin 4 × Fin 8)).biUnion (landing p c) = Finset.univ := by
  refine Finset.eq_univ_of_forall fun i => ?_
  have h1 : (i 1).val < 1024 := (i 1).isLt
  obtain ⟨x, hx⟩ := blockNo_surj c ⟨(i 1).val / 32, by omega⟩
  exact Finset.mem_biUnion.mpr ⟨x, Finset.mem_univ _, (landing_block p c x i).mpr hx.symm⟩

theorem sC_disjoint (j j' : Fin 8) (h : j ≠ j') : Disjoint (sset j) (sset j') := by
  rw [Finset.disjoint_left]
  intro i hx hy
  exact h (Fin.ext (((sC_mem j i).mp hx).symm.trans ((sC_mem j' i).mp hy)))

theorem sC_cover : (Finset.univ : Finset (Fin 8)).biUnion sset = Finset.univ := by
  refine Finset.eq_univ_of_forall fun i => ?_
  have h0 : (i 0).val < 256 := (i 0).isLt
  exact Finset.mem_biUnion.mpr ⟨⟨(i 0).val / 32, by omega⟩, Finset.mem_univ _, (sC_mem _ i).mpr rfl⟩

/-! ## The contents -/

variable (m : (ℓ : Loc nD τ sig) → Buf (Elt F) ℓ)

/-- The input slab of device `c`. -/
abbrev inp (c : Dev nD) : Buf (Elt F) ((c : Thread nD τ).loc main_arg0) := m ((c : Thread nD τ).loc main_arg0)

/-- What the staging buffers hold once filled: the quarter `c` sends. -/
def sendF (c : Dev nD) : (cc0_scratch1 : Ref sig .tc).ty.Contents (Elt F) := (xQ c).view.read (Elt F) (inp m c)

/-- The device of column `(x, y)` row `r` belongs to, and whose slab comes to the plane of `e`. -/
def srcOf (p : Equiv.Perm (Fin 4)) (e : Dev nD) (i : S1x1024x1024.Idx) : Dev nD :=
  mk ⟨(i 1).val / 512, by have h1 : (i 1).val < 1024 := (i 1).isLt; omega⟩ ⟨(i 1).val / 256 % 2, by omega⟩ (p.symm (dZ e))

/-- What device `e`'s result buffer holds at the end: at every row, the input of the device that sent that row. -/
def outF (p : Equiv.Perm (Fin 4)) (e : Dev nD) : (main_v1 : Ref sig .tc).ty.Contents (Elt F) := fun i => inp m (srcOf p e i) i

omit [FloatOps F] in
/-- Devices of one plane end with the same contents. -/
theorem outF_plane (p : Equiv.Perm (Fin 4)) (k : Fin 4) (hk : k ≠ 0) (c : Dev nD) : outF m p (peer p k c) = outF m p c := by
  funext i; unfold outF srcOf; rw [dZ_peer p k hk c]

theorem xQ_off : ∀ c : Dev nD, k0_off2 c = ![0, 512 * (c.val / 8) + 256 * (c.val / 4 % 2), 0] := k0_off2_eq

/-- A chunk of the quarter is the same place whether counted in the slab or through the send buffer. -/
theorem xQ_emb (c : Dev nD) (j : Fin 8) (x : S32x1024.Idx) :
    ((xQ c).view.emb ((sC j).view.emb x) : S1x1024x1024.Idx) = (oC c j).view.emb x := by
  have hL : ((xQ c).view.emb ((sC j).view.emb x) : S1x1024x1024.Idx)
      = (Rect.unit (s := S1x1024x1024) (k0_off2 c) S1x256x1024.size (k0_off2_inb c)).emb
          (Shape.reshapeEquiv (squeezes_S1x256x1024_S256x1024.numel_eq) ((sC j).view.emb x)) := rfl
  have hR : ((oC c j).view.emb x : S1x1024x1024.Idx)
      = (Rect.unit (s := S1x1024x1024) (k0_off4 c (chW j)) S1x32x1024.size (k0_off4_inb c j)).emb
          (Shape.reshapeEquiv (squeezes_S1x32x1024_S32x1024.numel_eq) x) := rfl
  have e1 := Shape.reshapeEquiv_cons_one (n := 2) (d := ![256, 1024]) squeezes_S1x256x1024_S256x1024.numel_eq ((sC j).view.emb x)
  have e2 := Shape.reshapeEquiv_cons_one (n := 2) (d := ![32, 1024]) squeezes_S1x32x1024_S32x1024.numel_eq x
  refine (hL.trans (congrArg _ e1)).trans (Eq.trans ?_ (hR.trans (congrArg _ e2)).symm)
  funext a
  apply Fin.ext
  have o2 := xQ_off c
  have o4 := k0_off4_eq c j
  have g0 : k0_off2 c 0 + 1 * 0 = k0_off4 c (chW j) 0 + 1 * 0 := by rw [congrFun o2 0, congrFun o4 0]; rfl
  have g1 : k0_off2 c 1 + 1 * (32 * j.val + 1 * (x 0).val) = k0_off4 c (chW j) 1 + 1 * (x 0).val := by
    rw [congrFun o2 1, congrFun o4 1]
    show 512 * (c.val / 8) + 256 * (c.val / 4 % 2) + 1 * (32 * j.val + 1 * (x 0).val) = 512 * (c.val / 8) + 256 * (c.val / 4 % 2) + 32 * j.val + 1 * (x 0).val
    omega
  have g2 : k0_off2 c 2 + 1 * (0 + 1 * (x 1).val) = k0_off4 c (chW j) 2 + 1 * (x 1).val := by
    rw [congrFun o2 2, congrFun o4 2]
    show 0 + 1 * (0 + 1 * (x 1).val) = 0 + 1 * (x 1).val
    omega
  fin_cases a
  · exact g0
  · exact g1
  · exact g2

/-- The rows of `c`'s quarter, at the device `c` sends to, come from `c`. -/
theorem srcOf_peer (p : Equiv.Perm (Fin 4)) (c : Dev nD) (j : Fin 8) (i : S1x1024x1024.Idx) (hi : i ∈ cset c j) :
    srcOf p (peer p 0 c) i = c := by
  rw [oC_mem] at hi
  have hc : c.val < 16 := c.isLt
  have hj := j.isLt
  unfold srcOf
  rw [peer_zero, dZ_mk, Equiv.symm_apply_apply]
  apply Fin.ext
  show 8 * ((i 1).val / 512) + 4 * ((i 1).val / 256 % 2) + c.val % 4 = c.val
  omega

omit [FloatOps F] in
/-- The column transfer of a chunk writes there what the receiver is to end with. -/
theorem land_col (p : Equiv.Perm (Fin 4)) (c : Dev nD) (j : Fin 8) (fd : (main_v1 : Ref sig .tc).ty.Contents (Elt F)) :
    ∀ i ∈ cset c j, (oC c j).view.write (Elt F) fd ((sC j).view.read (Elt F) (sendF m c)) Finset.univ i = outF m p (peer p 0 c) i := by
  intro i hi
  unfold outF
  rw [srcOf_peer p c j i hi]
  obtain ⟨x, -, rfl⟩ := Finset.mem_map.mp hi
  refine (View.write_emb_of_mem (v := (oC c j).view) _ _ (h := Finset.mem_univ x)).trans ?_
  exact congrArg (inp m c) (xQ_emb c j x)

omit [FloatOps F] in
/-- The plane transfer of a chunk likewise. -/
theorem land_plane (p : Equiv.Perm (Fin 4)) (k : Fin 4) (hk : k ≠ 0) (c : Dev nD) (j : Fin 8) (fd : (main_v1 : Ref sig .tc).ty.Contents (Elt F)) :
    ∀ i ∈ cset c j, (oC c j).view.write (Elt F) fd ((oC c j).view.read (Elt F) (outF m p c)) Finset.univ i = outF m p (peer p k c) i := by
  intro i hi
  rw [outF_plane m p k hk c]
  obtain ⟨x, -, rfl⟩ := Finset.mem_map.mp hi
  exact View.write_emb_of_mem (v := (oC c j).view) _ _ (h := Finset.mem_univ x)

end Cert.Permute

end
-- ==== Proof.Schedule.lean ====
/-
# The semaphores and their schedule

Every device has one semaphore for its local copy, a barrier, an acknowledgement, and per pair of arrays `k` (`0` the
column, `1`, `2`, `3` the plane) and chunk `j` a send and a receive semaphore. Each goes one round.

* barrier of `e`: five units. Duty `d < 4` is paid by `peer d e`, with the eight chunks of its result buffer that `e`
  writes by its transfers over pair `d`; duty `4` by the device whose slab comes to `e`, with nothing.
* send `(0, j)`: the chunk of the send buffer back. Send `(k, j)`, `k ≥ 1`: the share of the device's own chunk back.
* receive `(k, j)`: the chunk landed, with the contents the result ends with.
* local: the quarter of the input back, and the buffer it was copied to, filled with it.
* acknowledgement: one unit, with nothing.
-/
module

public import proofs.«01_k».proof.Proof.Views
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev Du : Type := Fin 5
abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- A pair of arrays and a chunk. -/
abbrev Xf : Type := Fin 4 × Fin 8

def sendS (x : Xf) : DmaSem sig := ⟨2 + 16 * x.1.val + x.2.val, by
  show _ < 66
  have := x.1.isLt; have := x.2.isLt; omega⟩
def recvS (x : Xf) : DmaSem sig := ⟨10 + 16 * x.1.val + x.2.val, by
  show _ < 66
  have := x.1.isLt; have := x.2.isLt; omega⟩
def localS : DmaSem sig := ⟨1, by decide⟩
def ackS : Sem sig := ⟨0, by decide⟩
def barS : Sem sig := ⟨1, by decide⟩

/-- What a transfer semaphore is: the pair of arrays, the chunk, and whether it is a send one. -/
def pairOf (q : DmaSem sig) : Fin 4 := ⟨(q.val - 2) / 16 % 4, by omega⟩
def chunkOf (q : DmaSem sig) : Fin 8 := ⟨(q.val - 2) % 8, by omega⟩
def isSend (q : DmaSem sig) : Bool := (q.val - 2) / 8 % 2 == 0

theorem pairOf_sendS : ∀ x, pairOf (sendS x) = x.1 := by decide
theorem pairOf_recvS : ∀ x, pairOf (recvS x) = x.1 := by decide
theorem chunkOf_sendS : ∀ x, chunkOf (sendS x) = x.2 := by decide
theorem chunkOf_recvS : ∀ x, chunkOf (recvS x) = x.2 := by decide
theorem isSend_sendS : ∀ x, isSend (sendS x) = true := by decide
theorem isSend_recvS : ∀ x, isSend (recvS x) = false := by decide
theorem isSend_localS : isSend localS = true := by decide
theorem sendS_ne : ∀ x, sendS x ≠ localS := by decide
theorem recvS_ne : ∀ x, recvS x ≠ localS := by decide
theorem ackS_ne : ackS ≠ barS := by decide

/-- A device's semaphores: send and receive ones, then local, acknowledgement, barrier. -/
abbrev Ci : Type := (Xf ⊕ Xf) ⊕ Fin 3
def csem : Ci → SemLoc sig
  | .inl (.inl x) => .dma (sendS x)
  | .inl (.inr x) => .dma (recvS x)
  | .inr 0 => .dma localS
  | .inr 1 => .reg ackS
  | .inr 2 => .reg barS
abbrev cell (c : Dev nD) (i : Ci) : GSem nD τ sig := ((c : Thread nD τ), csem i)
abbrev iS (x : Xf) : Ci := .inl (.inl x)
abbrev iR (x : Xf) : Ci := .inl (.inr x)
abbrev iL : Ci := .inr 0
abbrev iA : Ci := .inr 1
abbrev iB : Ci := .inr 2

theorem csem_inj : Function.Injective csem := by
  rintro ((x | x) | i) ((y | y) | j) h
  · have h' : sendS x = sendS y := SemLoc.dma.inj h
    have : x = y := Prod.ext (by rw [← pairOf_sendS x, h', pairOf_sendS]) (by rw [← chunkOf_sendS x, h', chunkOf_sendS])
    rw [this]
  · have h' : sendS x = recvS y := SemLoc.dma.inj h
    exact absurd (isSend_sendS x) (by rw [h', isSend_recvS]; decide)
  · fin_cases j
    · exact absurd (SemLoc.dma.inj h) (sendS_ne x)
    all_goals cases h
  · have h' : recvS x = sendS y := SemLoc.dma.inj h
    exact absurd (isSend_sendS y) (by rw [← h', isSend_recvS]; decide)
  · have h' : recvS x = recvS y := SemLoc.dma.inj h
    have : x = y := Prod.ext (by rw [← pairOf_recvS x, h', pairOf_recvS]) (by rw [← chunkOf_recvS x, h', chunkOf_recvS])
    rw [this]
  · fin_cases j
    · exact absurd (SemLoc.dma.inj h) (recvS_ne x)
    all_goals cases h
  · fin_cases i
    · exact absurd (SemLoc.dma.inj h).symm (sendS_ne y)
    all_goals cases h
  · fin_cases i
    · exact absurd (SemLoc.dma.inj h).symm (recvS_ne y)
    all_goals cases h
  · fin_cases i <;> fin_cases j <;> first | rfl | cases h | exact absurd (SemLoc.reg.inj h) (by decide)

/-! ## What the semaphores carry -/

variable (m : (ℓ : Loc nD τ sig) → Buf (Elt F) ℓ) (p : Equiv.Perm (Fin 4))

/-- The chunk `(c, j)` of device `e`'s result buffer, at a share. -/
def oPt (e c : Dev nD) (j : Fin 8) (q : PosShare TreeShare) (f : (main_v1 : Ref sig .tc).ty.Contents (Elt F)) : sProp 𝕄 :=
  ((e : Thread nD τ).loc main_v1) ↦[cset c j]{q} f
/-- The same at the full share, whatever it holds. -/
def oAny (e c : Dev nD) (j : Fin 8) : sProp 𝕄 := iprop(∃ f, oPt (F := F) e c j fullShare f)
/-- Chunk `j` of device `c`'s send buffer, filled. -/
def sPt (c : Dev nD) (j : Fin 8) : sProp 𝕄 :=
  ((c : Thread nD τ).loc cc0_scratch1) ↦[sset j]{fullShare} sendF m c
/-- The elements of the quarter a device sends. -/
def xset (c : Dev nD) : Finset S1x1024x1024.Idx := (xQ c).view.set
/-- That quarter of its input. -/
def xPt (c : Dev nD) : sProp 𝕄 := ((c : Thread nD τ).loc main_arg0) ↦[xset c]{fullShare} inp m c
/-- The buffer the quarter is first copied to, filled. -/
def qPt (c : Dev nD) : sProp 𝕄 := ((c : Thread nD τ).loc cc0_scratch0) ↦{fullShare} sendF m c

/-- The third of a chunk plane transfer `k` reads. -/
def third (k : Fin 4) : PosShare TreeShare := match k with
  | 0 => fullShare
  | 1 => fullShare.left
  | 2 => fullShare.right.left
  | 3 => fullShare.right.right

/-- What transfer `x` of `c` reads. -/
def srcPt (c : Dev nD) (x : Xf) : sProp 𝕄 :=
  if x.1 = 0 then sPt m c x.2 else oPt c c x.2 (third x.1) (outF m p c)
/-- What transfer `x` leaves on the device `e` that receives it. -/
def landPt (e : Dev nD) (x : Xf) : sProp 𝕄 := oPt e ((peer p x.1).symm e) x.2 fullShare (outF m p e)
/-- What the barrier's duty `d` brings device `e`. -/
def barPay (e : Dev nD) (d : Du) : sProp 𝕄 :=
  if h : d.val < 4 then bigSep Finset.univ fun j : Fin 8 => oAny (peer p ⟨d.val, h⟩ e) e j else iprop(emp)

def xferPay (c : Dev nD) (q : DmaSem sig) : sProp 𝕄 :=
  if isSend q then srcPt m p c (pairOf q, chunkOf q) else landPt m p c (pairOf q, chunkOf q)
def payOf (c : Dev nD) : SemLoc sig → Du → sProp 𝕄
  | .reg s, d => if s = barS then barPay p c d else iprop(emp)
  | .dma q, _ => if q = localS then iprop(qPt m c ∗ xPt m c) else xferPay m p c q
def amtOf : SemLoc sig → ℕ
  | .reg _ => 1
  | .dma q => if q = localS then NL else NC
def dutOf : SemLoc sig → Finset Du
  | .reg s => if s = barS then Finset.univ else {0}
  | .dma _ => {0}

/-- The schedule. -/
def Rd : Rounds.Schedule (GSem nD τ sig) Du 𝕄 where
  duties g r := if r = 0 then dutOf g.2 else ∅
  unitless _ := False
  amount g _ _ := amtOf g.2
  payload g _ d := payOf m p g.1.1 g.2 d
  amount_pos g r d _ := by
    obtain ⟨t, s | q⟩ := g
    · exact Nat.one_pos
    · show 0 < if q = localS then NL else NC
      split
      · exact NL_pos
      · exact NC_pos

instance oPt_storable (e c : Dev nD) (j : Fin 8) (q : PosShare TreeShare) (f : (main_v1 : Ref sig .tc).ty.Contents (Elt F)) :
    BI.Storable (upEmb : UEmb _ 𝕄) (oPt e c j q f) := by unfold oPt; infer_instance
instance sPt_storable (c : Dev nD) (j : Fin 8) : BI.Storable (upEmb : UEmb _ 𝕄) (sPt m c j) := by unfold sPt; infer_instance
instance xPt_storable (c : Dev nD) : BI.Storable (upEmb : UEmb _ 𝕄) (xPt m c) := by unfold xPt; infer_instance
instance qPt_storable (c : Dev nD) : BI.Storable (upEmb : UEmb _ 𝕄) (qPt m c) := by unfold qPt; infer_instance
instance payload_storable (g : GSem nD τ sig) (r : ℕ) (d : Du) :
    BI.Storable (upEmb : UEmb _ 𝕄) ((Rd (F := F) m p).payload g r d) := by
  show BI.Storable upEmb (payOf m p g.1.1 g.2 d)
  obtain ⟨t, s | q⟩ := g
  · show BI.Storable upEmb (if s = barS then barPay p t.1 d else iprop(emp))
    unfold barPay oAny
    (repeat' split) <;> infer_instance
  · show BI.Storable upEmb (if q = localS then iprop(qPt m t.1 ∗ xPt m t.1) else xferPay m p t.1 q)
    unfold xferPay srcPt landPt
    (repeat' split) <;> infer_instance

section Sched
variable (c : Dev nD)

omit [FloatOps F] in
theorem duties_bar : (Rd (F := F) m p).duties (cell c iB) 0 = Finset.univ := rfl
omit [FloatOps F] in
/-- Every semaphore but the barrier has one duty. -/
theorem duties_one (i : Ci) (hi : i ≠ iB) : (Rd (F := F) m p).duties (cell c i) 0 = {0} := by
  obtain (x | x) | j := i
  · rfl
  · rfl
  · fin_cases j
    · rfl
    · rfl
    · exact absurd rfl hi
omit [FloatOps F] in
theorem duties_later (g : GSem nD τ sig) : ∀ r, 1 ≤ r → (Rd (F := F) m p).duties g r = ∅ :=
  fun r hr => if_neg (by omega)

omit [FloatOps F] in
theorem amount_reg (s : Sem sig) (d : Du) : (Rd (F := F) m p).amount ((c : Thread nD τ), .reg s) 0 d = 1 := rfl
omit [FloatOps F] in
theorem amount_send (x : Xf) (d : Du) : (Rd (F := F) m p).amount (cell c (iS x)) 0 d = NC := if_neg (sendS_ne x)
omit [FloatOps F] in
theorem amount_recv (x : Xf) (d : Du) : (Rd (F := F) m p).amount (cell c (iR x)) 0 d = NC := if_neg (recvS_ne x)
omit [FloatOps F] in
theorem amount_local (d : Du) : (Rd (F := F) m p).amount (cell c iL) 0 d = NL :=
  (if_pos rfl : (if localS = localS then NL else NC) = _)

omit [FloatOps F] in
theorem expect_bar : (Rd (F := F) m p).expect (cell c iB) 0 = 5 := by
  unfold Schedule.expect Schedule.amountOf
  rw [duties_bar]
  exact (Finset.sum_congr rfl fun d _ => amount_reg m p c barS d).trans (by decide)
omit [FloatOps F] in
theorem expect_one (i : Ci) (hi : i ≠ iB) : (Rd (F := F) m p).expect (cell c i) 0 = (Rd (F := F) m p).amount (cell c i) 0 0 := by
  unfold Schedule.expect Schedule.amountOf; rw [duties_one m p c i hi, Finset.sum_singleton]

omit [FloatOps F] in
theorem payload_bar (d : Du) : (Rd (F := F) m p).payload (cell c iB) 0 d = barPay p c d :=
  (if_pos rfl : (if barS = barS then barPay p c d else iprop(emp)) = _)
omit [FloatOps F] in
theorem payload_ack (d : Du) : (Rd (F := F) m p).payload (cell c iA) 0 d = iprop(emp) :=
  (if_neg ackS_ne : (if ackS = barS then barPay p c d else iprop(emp)) = _)
omit [FloatOps F] in
theorem payload_local (d : Du) : (Rd (F := F) m p).payload (cell c iL) 0 d = iprop(qPt m c ∗ xPt m c) :=
  (if_pos rfl : (if localS = localS then iprop(qPt m c ∗ xPt m c) else xferPay m p c localS) = _)
omit [FloatOps F] in
theorem payload_send (x : Xf) (d : Du) : (Rd (F := F) m p).payload (cell c (iS x)) 0 d = srcPt m p c x := by
  refine (if_neg (sendS_ne x)).trans ?_
  unfold xferPay; rw [if_pos (isSend_sendS x), pairOf_sendS, chunkOf_sendS]
omit [FloatOps F] in
theorem payload_recv (x : Xf) (d : Du) : (Rd (F := F) m p).payload (cell c (iR x)) 0 d = landPt m p c x := by
  refine (if_neg (recvS_ne x)).trans ?_
  unfold xferPay; rw [if_neg (by rw [isSend_recvS]; decide), pairOf_recvS, chunkOf_recvS]

omit [FloatOps F] in
theorem rest_bar : bigSep ((Rd (F := F) m p).duties (cell c iB) 0 \ ∅) (fun d => (Rd (F := F) m p).payload (cell c iB) 0 d)
    = bigSep Finset.univ fun d => barPay p c d := by
  rw [Finset.sdiff_empty, duties_bar]; exact bigSep_congr fun d _ => payload_bar m p c d
omit [FloatOps F] in
theorem rest_one (i : Ci) (hi : i ≠ iB) : bigSep ((Rd (F := F) m p).duties (cell c i) 0 \ ∅) (fun d => (Rd (F := F) m p).payload (cell c i) 0 d)
    = (Rd (F := F) m p).payload (cell c i) 0 0 := by
  rw [Finset.sdiff_empty, duties_one m p c i hi, bigSep_singleton]

end Sched

/-! ## When each transfer is started and waited for

The kernel's run after the barrier is ninety-eight steps, numbered from `0`: each starts a transfer, or waits for one, or
sends or awaits the acknowledgement. -/

/-- The step that starts transfer `x`. -/
def tS (x : Xf) : ℕ := if x.1 = 0 then x.2.val else 8 + 4 * x.2.val + x.1.val
/-- The step that waits for transfer `x` to land here. -/
def tR (x : Xf) : ℕ := if x.1 = 0 then 8 + 4 * x.2.val else 40 + 3 * x.2.val + x.1.val
/-- The step that waits for transfer `x` to have left. -/
def tW (x : Xf) : ℕ := if x.1 = 0 then 65 + x.2.val else 72 + 3 * x.2.val + x.1.val
/-- The steps of the acknowledgement. -/
abbrev tA : ℕ := 40
abbrev tE : ℕ := 97

/-! ## What a device owes, and the levels -/

/-- The device that the barrier's duty `d` is paid to by `c`. -/
def barTo (d : Du) : Equiv.Perm (Dev nD) := if h : d.val < 4 then (peer p ⟨d.val, h⟩).symm else peer p 0

/-- What device `c` owes before step `n`: every transfer not started, to the receiver; the acknowledgement if not sent. -/
def ow (c : Dev nD) (n : ℕ) : CellTallies nD τ sig Unit :=
  (∑ x : Xf, if tS x < n then 0 else tallyAt (cell (peer p x.1 c) (iR x)) () NC)
    + if tA < n then 0 else tallyAt (cell ((peer p 0).symm c) iA) () 1
/-- Before the barrier also a unit for each signal not sent. -/
def owB (c : Dev nD) (S : Finset Du) : CellTallies nD τ sig Unit := ow p c 0 + ∑ d ∈ S, tallyAt (cell (barTo p d c) iB) () 1

def L (g : GSem nD τ sig) : Finset Unit := if g.1.2 = .tc then {()} else ∅
def lvS : SemLoc sig → ℕ
  | .reg s => if s = barS then 1 else 4
  | .dma q => if isSend q then 0 else if pairOf q = 0 then 2 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (x : Xf) : lvS (csem (iR x)) = if x.1 = 0 then 2 else 3 := by
  show (if isSend (recvS x) then 0 else if pairOf (recvS x) = 0 then 2 else 3) = _
  rw [if_neg (by rw [isSend_recvS]; decide), pairOf_recvS]
theorem lv_send (x : Xf) : lvS (csem (iS x)) = 0 := if_pos (isSend_sendS x)

/-- Starting transfer `x` pays what it owed the receiver. -/
theorem ow_send (c : Dev nD) (x : Xf) : ow p c (tS x) = ow p c (tS x + 1) + tallyAt (cell (peer p x.1 c) (iR x)) () NC := by
  have hA : (tA < tS x) = (tA < tS x + 1) := by
    have : ∀ x, (tA < tS x) ↔ (tA < tS x + 1) := by decide
    exact propext (this x)
  have hO : ∀ x y : Xf, y ≠ x → (tS y < tS x ↔ tS y < tS x + 1) := by decide
  unfold ow
  rw [← Finset.add_sum_erase _ _ (Finset.mem_univ x), ← Finset.add_sum_erase (a := x) _ (fun y => if tS y < tS x + 1 then _ else _) (Finset.mem_univ x),
    if_neg (Nat.lt_irrefl _), if_pos (Nat.lt_succ_self _), zero_add,
    Finset.sum_congr rfl fun y hy => by rw [if_congr (hO x y (Finset.ne_of_mem_erase hy)) rfl rfl]]
  simp only [hA]
  ac_rfl

/-- So does the acknowledgement. -/
theorem ow_ack (c : Dev nD) : ow p c tA = ow p c (tA + 1) + tallyAt (cell ((peer p 0).symm c) iA) () 1 := by
  have hO : ∀ y : Xf, tS y < tA ∧ tS y < tA + 1 := by decide
  unfold ow
  rw [Finset.sum_congr rfl fun y _ => if_pos (hO y).1, Finset.sum_congr rfl fun y _ => if_pos (hO y).2,
    if_neg (Nat.lt_irrefl _), if_pos (Nat.lt_succ_self _), add_zero]

/-- A step that starts nothing changes nothing. -/
theorem ow_same (c : Dev nD) (n : ℕ) (h : ∀ x, tS x ≠ n) (h' : tA ≠ n) : ow p c n = ow p c (n + 1) := by
  unfold ow
  have e : ∀ y : Xf, (tS y < n ↔ tS y < n + 1) := fun y => by have := h y; omega
  have e' : tA < n ↔ tA < n + 1 := by omega
  simp only [e, e']

/-- After the acknowledgement nothing is owed. -/
theorem ow_zero (c : Dev nD) (n : ℕ) (h : tA < n) : ow p c n = 0 := by
  have hO : ∀ y : Xf, tS y < tA := by decide
  unfold ow
  rw [Finset.sum_congr rfl fun y _ => if_pos ((hO y).trans h), if_pos h, Finset.sum_const_zero, add_zero]

theorem owB_signal (c : Dev nD) (S : Finset Du) (d : Du) (h : d ∈ S) :
    owB p c S = owB p c (S.erase d) + tallyAt (cell (barTo p d c) iB) () 1 := by
  unfold owB; rw [← Finset.add_sum_erase _ _ h]; ac_rfl
theorem owB_empty (c : Dev nD) : owB p c ∅ = ow p c 0 := by unfold owB; rw [Finset.sum_empty, add_zero]

/-- Whom something is owed. -/
theorem ow_pos {c : Dev nD} {n : ℕ} {g : GSem nD τ sig} {u : Unit} (h : 0 < ow p c n g u) :
    (∃ x, n ≤ tS x ∧ g = cell (peer p x.1 c) (iR x)) ∨ g = cell ((peer p 0).symm c) iA := by
  by_contra hn
  rw [not_or, not_exists] at hn
  have e : ow p c n g u = 0 := by
    unfold ow
    rw [Pi.add_apply, Finsupp.add_apply, Finset.sum_apply, Finsupp.finset_sum_apply, Finset.sum_eq_zero, zero_add]
    · split
      · rfl
      · rw [tallyAt_apply, if_neg fun h' => hn.2 h'.1]
    · intro x _
      split
      · rfl
      · rename_i hx
        rw [tallyAt_apply, if_neg fun h' => hn.1 x ⟨Nat.le_of_not_lt hx, h'.1⟩]
  omega
theorem owB_pos {c : Dev nD} {S : Finset Du} {g : GSem nD τ sig} {u : Unit} (h : 0 < owB p c S g u) :
    0 < ow p c 0 g u ∨ ∃ d, g = cell (barTo p d c) iB := by
  by_contra hn
  rw [not_or, not_exists] at hn
  have e : owB p c S g u = 0 := by
    unfold owB
    rw [Pi.add_apply, Finsupp.add_apply, Finset.sum_apply, Finsupp.finset_sum_apply, Finset.sum_eq_zero, add_zero]
    · omega
    · intro d _
      rw [tallyAt_apply, if_neg fun h' => hn.2 d h'.1]
  omega

omit [FloatOps F] in
/-- A wait is allowed when everything owed is at a higher level. -/
theorem mayWait_of (c : Dev nD) (sm : SemLoc sig) (O : CellTallies nD τ sig Unit)
    (h : ∀ (g : GSem nD τ sig) (u : Unit), 0 < O g u → ∃ (e : Dev nD) (i : Ci), g = cell e i ∧ lvS sm < lvS (csem i)) :
    (levAts L lv : sProp 𝕄) ⊢ MayWait (c : Thread nD τ) sm () O :=
  MayOwe.of_cut (L := L) (lev := lv) (lvS sm) (fun q hq => by rw [Finset.mem_singleton.mp hq, L_tc]; exact Finset.mem_singleton_self _)
    (fun g u hg => by obtain ⟨e, i, rfl, -⟩ := h g u hg; exact Finset.mem_singleton_self _)
    (fun q hq => by rw [Finset.mem_singleton.mp hq]; exact le_rfl)
    (fun g u hg => by obtain ⟨e, i, rfl, hl⟩ := h g u hg; exact hl)

omit [FloatOps F] in
theorem mayWait_low (c : Dev nD) (sm : SemLoc sig) (h0 : lvS sm = 0) (S : Finset Du) :
    (levAts L lv : sProp 𝕄) ⊢ MayWait (c : Thread nD τ) sm () (owB p c S) :=
  mayWait_of c sm _ fun g u hg => by
    rw [h0]
    rcases owB_pos p hg with hg | ⟨d, rfl⟩
    · rcases ow_pos p hg with ⟨x, -, rfl⟩ | rfl
      · exact ⟨_, _, rfl, by rw [lv_recv]; split <;> decide⟩
      · exact ⟨_, _, rfl, by decide⟩
    · exact ⟨_, _, rfl, by decide⟩
omit [FloatOps F] in
theorem mayWait_bar (c : Dev nD) : (levAts L lv : sProp 𝕄) ⊢ MayWait (c : Thread nD τ) (csem iB) () (ow p c 0) :=
  mayWait_of c _ _ fun g u hg => by
    rcases ow_pos p hg with ⟨x, -, rfl⟩ | rfl
    · exact ⟨_, _, rfl, by rw [lv_recv]; split <;> decide⟩
    · exact ⟨_, _, rfl, by decide⟩
omit [FloatOps F] in
theorem mayWait_recv (c : Dev nD) (j : Fin 8) : (levAts L lv : sProp 𝕄) ⊢ MayWait (c : Thread nD τ) (csem (iR (0, j))) () (ow p c (tR (0, j))) :=
  mayWait_of c _ _ fun g u hg => by
    rw [lv_recv, if_pos rfl]
    rcases ow_pos p hg with ⟨x, hx, rfl⟩ | rfl
    · have hz : ∀ (x : Xf) (j : Fin 8), tR (0, j) ≤ tS x → x.1 ≠ 0 := by decide
      exact ⟨_, _, rfl, by rw [lv_recv, if_neg (hz x j hx)]; decide⟩
    · exact ⟨_, _, rfl, by decide⟩

end Cert.Permute

end
-- ==== Proof.State.lean ====
/-
# What a device holds before each of its ninety-eight steps

A transfer `x` of a device passes through four states on the sending side — its destination received but its source not
yet here; both here; started; finished with the source back — and two on the receiving side. Which state it is in before
step `n` is read off the numbers of the steps that start it and wait for it.
-/
module

public import proofs.«01_k».proof.Proof.Schedule

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (p : Equiv.Perm (Fin 4))

/-! ## Families -/

omit [FloatOps F] in
/-- One member of a family apart. -/
theorem fam_split {I : Type} [DecidableEq I] {s : Finset I} {i : I} (h : i ∈ s) (Φ : I → sProp 𝕄) :
    bigSep s Φ = iprop(Φ i ∗ bigSep (s.erase i) Φ) := BI.bigSep_erase h
omit [FloatOps F] in
/-- One member of a family alone. -/
theorem fam_at {I : Type} [Fintype I] [DecidableEq I] (i : I) (Φ : I → sProp 𝕄) : bigSep Finset.univ Φ ⊢ Φ i := BI.bigSep_elim (Finset.mem_univ i)

/-! ## The invariants -/

/-- Every device's semaphores' invariants, and that each has reached its only round. -/
def records (K : Dev nD × Ci → ℕ) : sProp 𝕄 :=
  iprop((bigSep Finset.univ fun e : Dev nD × Ci => cellInv ER (Rd m p) (K e) (cell e.1 e.2))
    ∗ bigSep Finset.univ fun e : Dev nD × Ci => reached ER (cell e.1 e.2) 0)

instance records_persistent (K : Dev nD × Ci → ℕ) : BI.Persistent (records m p K) := by unfold records; infer_instance

omit [FloatOps F] in
theorem inv_at (K : Dev nD × Ci → ℕ) (e : Dev nD) (i : Ci) : records m p K ⊢ cellInv ER (Rd m p) (K (e, i)) (cell e i) := by
  unfold records
  iintro ⟨H, -⟩
  iapply (fam_at (e, i) (fun e : Dev nD × Ci => (cellInv ER (Rd m p) (K e) (cell e.1 e.2) : sProp 𝕄)))
  iexact H
omit [FloatOps F] in
theorem reached_at (K : Dev nD × Ci → ℕ) (e : Dev nD) (i : Ci) : records m p K ⊢ reached ER (cell e i) 0 := by
  unfold records
  iintro ⟨-, H⟩
  iapply (fam_at (e, i) (fun e : Dev nD × Ci => (reached ER (cell e.1 e.2) 0 : sProp 𝕄)))
  iexact H

/-! ## A family of which one member changes -/

omit [FloatOps F] in
/-- Taking one member out of a family, to put it back changed. -/
theorem fam_take {I : Type} [Fintype I] [DecidableEq I] (Φ Ψ : I → sProp 𝕄) (x : I) (h : ∀ y, y ≠ x → Φ y = Ψ y) :
    bigSep Finset.univ Φ ⊢ iprop(Φ x ∗ (Ψ x -∗ bigSep Finset.univ Ψ)) := by
  rw [fam_split (Finset.mem_univ x) Φ, fam_split (Finset.mem_univ x) Ψ,
    bigSep_congr (s := Finset.univ.erase x) fun y hy => h y (Finset.ne_of_mem_erase hy)]
  iintro ⟨H1, H2⟩
  isplitl [H1]; · iexact H1
  iintro H
  isplitl [H] <;> iassumption

omit [FloatOps F] in
/-- Taking three out. -/
theorem fam_take3 {I : Type} [Fintype I] [DecidableEq I] (Φ Ψ : I → sProp 𝕄) (x y z : I) (hxy : y ≠ x) (hxz : z ≠ x) (hyz : z ≠ y)
    (h : ∀ w, w ≠ x → w ≠ y → w ≠ z → Φ w = Ψ w) :
    bigSep Finset.univ Φ ⊢ iprop((Φ x ∗ Φ y ∗ Φ z) ∗ ((Ψ x ∗ Ψ y ∗ Ψ z) -∗ bigSep Finset.univ Ψ)) := by
  have hy : y ∈ Finset.univ.erase x := Finset.mem_erase.mpr ⟨hxy, Finset.mem_univ _⟩
  have hz : z ∈ (Finset.univ.erase x).erase y := Finset.mem_erase.mpr ⟨hyz, Finset.mem_erase.mpr ⟨hxz, Finset.mem_univ _⟩⟩
  have hc : bigSep (((Finset.univ.erase x).erase y).erase z) Φ = bigSep (((Finset.univ.erase x).erase y).erase z) Ψ := bigSep_congr fun w hw => by
    rw [Finset.mem_erase, Finset.mem_erase, Finset.mem_erase] at hw
    exact h w hw.2.2.1 hw.2.1 hw.1
  rw [fam_split (Finset.mem_univ x) Φ, fam_split (Finset.mem_univ x) Ψ, fam_split hy Φ, fam_split hy Ψ,
    fam_split hz Φ, fam_split hz Ψ, hc]
  iintro ⟨H1, H2, H3, H4⟩
  isplitl [H1 H2 H3]
  · isplitl [H1]; · iexact H1
    isplitl [H2] <;> iassumption
  iintro ⟨H1, H2, H3⟩
  isplitl [H1]; · iexact H1
  isplitl [H2]; · iexact H2
  isplitl [H3] <;> iassumption

/-! ## The states of a transfer -/

section States
variable (c : Dev nD) (x : Xf)

/-- Before it starts: the tokens of the two duties it pays, the send semaphore unspent, the destination. -/
def sndPre : sProp 𝕄 :=
  iprop(dutyTok ER (cell c (iS x)) 0 0 ∗ dutyTok ER (cell (peer p x.1 c) (iR x)) 0 0 ∗ atPos ER (cell c (iS x)) 0 ∅ 0
    ∗ oAny (peer p x.1 c) c x.2)

def sndSt : ℕ → sProp 𝕄
  | 0 => sndPre p c x
  | 1 => iprop(sndPre p c x ∗ srcPt m p c x)
  | 2 => iprop(cred (tallyAt (cell c (iS x)) () NC) ∗ atPos ER (cell c (iS x)) 0 ∅ 0)
  | _ => iprop(semVal (cell c (iS x)) 0 ∗ srcPt m p c x)

/-- What a landed transfer leaves with its receiver: the chunk, unless it was passed on to the plane transfers. -/
def kept : sProp 𝕄 := if x.1 = 0 then iprop(emp) else landPt m p c x

def rcvSt : ℕ → sProp 𝕄
  | 0 => iprop(cred (tallyAt (cell c (iR x)) () NC) ∗ atPos ER (cell c (iR x)) 0 ∅ 0)
  | _ => iprop(semVal (cell c (iR x)) 0 ∗ kept m p c x)

end States

/-- The states before step `n`. -/
def sndPh (n : ℕ) (x : Xf) : ℕ :=
  if tW x < n then 3 else if tS x < n then 2 else if x.1 = 0 ∨ 8 + 4 * x.2.val < n then 1 else 0
def rcvPh (n : ℕ) (x : Xf) : ℕ := if tR x < n then 1 else 0

def ackOut (c : Dev nD) (n : ℕ) : sProp 𝕄 := if tA < n then iprop(emp) else dutyTok ER (cell ((peer p 0).symm c) iA) 0 0
def ackIn (c : Dev nD) (n : ℕ) : sProp 𝕄 :=
  if tE < n then semVal (cell c iA) 0 else iprop(cred (tallyAt (cell c iA) () 1) ∗ atPos ER (cell c iA) 0 ∅ 0)

/-- What device `c` holds before step `n`, beside `R` that no step touches. -/
def St (K : Dev nD × Ci → ℕ) (c : Dev nD) (R : sProp 𝕄) (n : ℕ) : sProp 𝕄 :=
  iprop(R ∗ records m p K ∗ levAts L lv ∗ (∃ W, owes (c : Thread nD τ) (ow p c n) W)
    ∗ (bigSep Finset.univ fun x => sndSt m p c x (sndPh n x)) ∗ (bigSep Finset.univ fun x => rcvSt m p c x (rcvPh n x))
    ∗ ackOut p c n ∗ ackIn c n)

/-! ## Which states a step changes -/

theorem snd_start : ∀ x y : Xf, y ≠ x → sndPh (tS x) y = sndPh (tS x + 1) y := by decide +kernel
theorem rcv_start : ∀ x y : Xf, rcvPh (tS x) y = rcvPh (tS x + 1) y := by decide +kernel
theorem snd_at : ∀ x : Xf, sndPh (tS x) x = 1 ∧ sndPh (tS x + 1) x = 2 := by decide +kernel
theorem snd_left : ∀ x y : Xf, y ≠ x → sndPh (tW x) y = sndPh (tW x + 1) y := by decide +kernel
theorem rcv_left : ∀ x y : Xf, rcvPh (tW x) y = rcvPh (tW x + 1) y := by decide +kernel
theorem left_at : ∀ x : Xf, sndPh (tW x) x = 2 ∧ sndPh (tW x + 1) x = 3 := by decide +kernel
theorem rcv_land : ∀ x y : Xf, y ≠ x → rcvPh (tR x) y = rcvPh (tR x + 1) y := by decide +kernel
theorem land_at : ∀ x : Xf, rcvPh (tR x) x = 0 ∧ rcvPh (tR x + 1) x = 1 := by decide +kernel
theorem snd_land : ∀ x y : Xf, x.1 ≠ 0 → sndPh (tR x) y = sndPh (tR x + 1) y := by decide +kernel
theorem snd_land0 : ∀ (j : Fin 8) (y : Xf), (y ≠ (1, j) ∧ y ≠ (2, j) ∧ y ≠ (3, j)) → sndPh (tR (0, j)) y = sndPh (tR (0, j) + 1) y := by decide +kernel
theorem land0_at : ∀ (j : Fin 8) (k : Fin 4), k ≠ 0 → sndPh (tR (0, j)) (k, j) = 0 ∧ sndPh (tR (0, j) + 1) (k, j) = 1 := by decide +kernel
theorem snd_ack : ∀ y : Xf, sndPh tA y = sndPh (tA + 1) y ∧ sndPh tE y = sndPh (tE + 1) y := by decide +kernel
theorem rcv_ack : ∀ y : Xf, rcvPh tA y = rcvPh (tA + 1) y ∧ rcvPh tE y = rcvPh (tE + 1) y := by decide +kernel
theorem snd_first : ∀ y : Xf, sndPh 0 y = if y.1 = 0 then 1 else 0 := by decide +kernel
theorem rcv_first : ∀ y : Xf, rcvPh 0 y = 0 := by decide +kernel
theorem snd_last : ∀ y : Xf, sndPh 98 y = 3 := by decide +kernel
theorem rcv_last : ∀ y : Xf, rcvPh 98 y = 1 := by decide +kernel

theorem tS_le : ∀ x : Xf, tS x < tA := by decide
theorem tR_ne : ∀ x : Xf, tR x ≠ tA ∧ tR x < tE := by decide
theorem tW_ne : ∀ x : Xf, tA < tW x ∧ tW x < tE := by decide
theorem tR_plane : ∀ x : Xf, x.1 ≠ 0 → tA < tR x := by decide
theorem tR_col : ∀ j : Fin 8, tR (0, j) < tA := by decide
theorem tS_ne_tR : ∀ x y : Xf, tS x ≠ tR y := by decide
theorem tS_ne_tW : ∀ x y : Xf, tS x ≠ tW y := by decide

omit [FloatOps F] in
theorem ackOut_same (c : Dev nD) (n : ℕ) (h : n ≠ tA) : ackOut (F := F) p c n = ackOut p c (n + 1) := by
  unfold ackOut; rw [if_congr (show tA < n ↔ tA < n + 1 by omega) rfl rfl]
omit [FloatOps F] in
theorem ackIn_same (c : Dev nD) (n : ℕ) (h : n ≠ tE) : ackIn (F := F) c n = ackIn c (n + 1) := by
  unfold ackIn; rw [if_congr (show tE < n ↔ tE < n + 1 by omega) rfl rfl]

end Cert.Permute

end
-- ==== Proof.Steps.lean ====
/-
# The ninety-eight steps

One lemma per kind of step, for every transfer at once: from what the device holds before step `n` the operation runs, and
what follows it runs from what the device holds before step `n + 1`.
-/
module

public import proofs.«01_k».proof.Proof.State

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (p : Equiv.Perm (Fin 4))

abbrev 𝒱₀ : Variants := Variants.none

/-- The weakest precondition of a device's program. -/
abbrev run (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## Waiting once for a semaphore of one duty -/

section Wait
variable (c : Dev nD) (q : DmaSem sig) (κ : ℕ)

/-- A transfer semaphore awaited for all it receives: it is closed, and gives what it carries. -/
theorem wait_dma (N : ℕ) (hdut : (Rd (F := F) m p).duties ((c : Thread nD τ), .dma q) 0 = {0})
    (hexp : (Rd (F := F) m p).expect ((c : Thread nD τ), .dma q) 0 = N)
    (O : CellTallies nD τ sig Unit) (W : Waits sig Unit)
    {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (Rd m p) κ ((c : Thread nD τ), .dma q) ∗ cred (tallyAt ((c : Thread nD τ), SemLoc.dma q) () N) ∗ owes (c : Thread nD τ) O W
        ∗ MayWait (c : Thread nD τ) (.dma q) () O ∗ atPos ER ((c : Thread nD τ), .dma q) 0 ∅ 0)
      ⊢ iprop(((owes (c : Thread nD τ) O (insert (SemLoc.dma q, ()) W) ∗ semVal ((c : Thread nD τ), .dma q) 0
            ∗ (Rd (F := F) m p).payload ((c : Thread nD τ), .dma q) 0 0) -∗ run c (k ⟨⟩) Q)
          -∗ run c (.op (.waitDma2 q src dst hsrc hdst) k) Q) := by
  subst hN
  iintro ⟨#HI, Hc, HO, HM, Hat⟩ Hk
  iapply (Rounds.wp_wait_rest_token 𝒱₀ ER (Rd m p) (c : Thread nD τ) none (κ := κ)
      (wpE_waitDma2_eq 𝒱₀ (c : Thread nD τ) none Set.univ) (Set.mem_univ _) () (O := O) (W := W) (R := 0) (m := 0) (T := ∅)
      (by rw [Nat.zero_add, hexp])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (Rd m p) (Set.mem_univ κ) (fun h => h) (R := 0 + 1) (duties_later m p ((c : Thread nD τ), .dma q))) $$ [Hat] with Hz
  · isplitr; · iexact HI
    iexact Hat
  iapply Hk
  isplitl [HO]; · iexact HO
  isplitl [Hz]; · iexact Hz
  iapply (Entails.of_eq (show bigSep ((Rd (F := F) m p).duties ((c : Thread nD τ), .dma q) 0 \ ∅)
      (fun d => (Rd (F := F) m p).payload ((c : Thread nD τ), .dma q) 0 d) = _ by rw [Finset.sdiff_empty, hdut, bigSep_singleton]))
  iexact Hpay

end Wait

/-! ## The families before and after -/

section Families
variable (c : Dev nD)

abbrev sndFam (n : ℕ) : sProp 𝕄 := bigSep Finset.univ fun x => sndSt m p c x (sndPh n x)
abbrev rcvFam (n : ℕ) : sProp 𝕄 := bigSep Finset.univ fun x => rcvSt m p c x (rcvPh n x)

omit [FloatOps F] in
theorem snd_take {a b : ℕ} (n n' : ℕ) (x : Xf) (h : ∀ y, y ≠ x → sndPh n y = sndPh n' y) (ha : sndPh n x = a) (hb : sndPh n' x = b) :
    sndFam m p c n ⊢ iprop(sndSt m p c x a ∗ (sndSt m p c x b -∗ sndFam m p c n')) := by
  subst ha hb
  exact fam_take (fun x => sndSt m p c x (sndPh n x)) (fun x => sndSt m p c x (sndPh n' x)) x fun y hy => by
    show sndSt m p c y (sndPh n y) = _; rw [h y hy]
omit [FloatOps F] in
theorem rcv_take {a b : ℕ} (n n' : ℕ) (x : Xf) (h : ∀ y, y ≠ x → rcvPh n y = rcvPh n' y) (ha : rcvPh n x = a) (hb : rcvPh n' x = b) :
    rcvFam m p c n ⊢ iprop(rcvSt m p c x a ∗ (rcvSt m p c x b -∗ rcvFam m p c n')) := by
  subst ha hb
  exact fam_take (fun x => rcvSt m p c x (rcvPh n x)) (fun x => rcvSt m p c x (rcvPh n' x)) x fun y hy => by
    show rcvSt m p c y (rcvPh n y) = _; rw [h y hy]
omit [FloatOps F] in
/-- The three plane transfers of chunk `j`, when it comes along the column. -/
theorem snd_take3 (j : Fin 8) : sndFam m p c (tR (0, j))
    ⊢ iprop((sndSt m p c (1, j) 0 ∗ sndSt m p c (2, j) 0 ∗ sndSt m p c (3, j) 0)
        ∗ ((sndSt m p c (1, j) 1 ∗ sndSt m p c (2, j) 1 ∗ sndSt m p c (3, j) 1) -∗ sndFam m p c (tR (0, j) + 1))) := by
  have h := fam_take3 (fun x => sndSt m p c x (sndPh (tR (0, j)) x)) (fun x => sndSt m p c x (sndPh (tR (0, j) + 1) x))
    (1, j) (2, j) (3, j) (by simp) (by simp) (by simp) (fun w h1 h2 h3 => by
      show sndSt m p c w (sndPh (tR (0, j)) w) = _; rw [snd_land0 j w ⟨h1, h2, h3⟩])
  have e (k : Fin 4) (hk : k ≠ 0) := land0_at j k hk
  simp only [(e 1 (by decide)).1, (e 2 (by decide)).1, (e 3 (by decide)).1, (e 1 (by decide)).2, (e 2 (by decide)).2, (e 3 (by decide)).2] at h
  exact h
omit [FloatOps F] in
theorem snd_same (n n' : ℕ) (h : ∀ y, sndPh n y = sndPh n' y) : sndFam m p c n = sndFam m p c n' :=
  bigSep_congr fun y _ => by rw [h y]
omit [FloatOps F] in
theorem rcv_same (n n' : ℕ) (h : ∀ y, rcvPh n y = rcvPh n' y) : rcvFam m p c n = rcvFam m p c n' :=
  bigSep_congr fun y _ => by rw [h y]

end Families

/-- The transfer that step `n` starts or awaits. -/
def opAt (n : ℕ) : Xf :=
  if n < 8 then (0, Fin.ofNat 8 n) else if n < 40 then (Fin.ofNat 4 ((n - 8) % 4), Fin.ofNat 8 ((n - 8) / 4))
  else if n < 65 then (Fin.ofNat 4 ((n - 41) % 3 + 1), Fin.ofNat 8 ((n - 41) / 3))
  else if n < 73 then (0, Fin.ofNat 8 (n - 65)) else (Fin.ofNat 4 ((n - 73) % 3 + 1), Fin.ofNat 8 ((n - 73) / 3))

/-! ## Starting a transfer -/

section Start
variable (K : Dev nD × Ci → ℕ) (c : Dev nD)

omit [FloatOps F] in
theorem duty_zero (i : Ci) (hi : i ≠ iB) : (0 : Du) ∈ (Rd (F := F) m p).duties (cell c i) 0 := by
  rw [duties_one m p c i hi]; exact Finset.mem_singleton_self _

/-- A transfer is started: from any memref that is the source. -/
theorem run_start (R : sProp 𝕄) (x : Xf) {sp : Space} {src : Memref sig .tc sp S32x1024 .bf16}
    {q : PosShare TreeShare} {fs : Buf (Elt F) (src.view.loc (c : Thread nD τ))}
    (hsp : srcPt m p c x = ((src.view.loc (c : Thread nD τ)) ↦[src.view.set]{q} fs))
    (hland : ∀ fd : (main_v1 : Ref sig .tc).ty.Contents (Elt F), ∀ i ∈ cset c x.2,
      (oC c x.2).view.write (Elt F) fd (src.view.read (Elt F) fs) Finset.univ i = outF m p (peer p x.1 c) i)
    {hsc : (oC c x.2 : Memref sig (Dev.tc (peer p x.1 c) : Thread nD τ).2.kind .hbm S32x1024 .bf16).view.ref.isScScratch = false}
    {hsrc : src.view.WordExact} {hdst : (oC c x.2).view.WordExact}
    {hsem : DmaTarget.Typed sp (.dma (recvS x)) (.remote (Dev.tc (peer p x.1 c) : Thread nD τ) (oC c x.2) (.dma (sendS x)) hsc)}
    {α : Type} {Q : α → sProp 𝕄} {k : PUnit → Prog (TpuEff nD τ sig (Elt F) Λ₀ .tc) α}
    (h : St m p K c R (tS x + 1) ⊢ run c (k ⟨⟩) Q) :
    St m p K c R (tS x) ⊢ run c (.op (.enqueueDma src (.remote (Dev.tc (peer p x.1 c) : Thread nD τ) (oC c x.2) (.dma (sendS x)) hsc) (.dma (recvS x)) hsrc hdst hsem) k) Q := by
  have hpay₁ : ((src.view.loc (c : Thread nD τ)) ↦[src.view.set]{q} fs) ⊢ (Rd (F := F) m p).payload (cell c (iS x)) 0 0 :=
    Entails.of_eq (hsp.symm.trans (payload_send m p c x 0).symm)
  have hpay₂ (fd : (main_v1 : Ref sig .tc).ty.Contents (Elt F)) :
      (((peer p x.1 c : Thread nD τ).loc main_v1) ↦[cset c x.2]{fullShare} ((oC c x.2).view.write (Elt F) fd (src.view.read (Elt F) fs) Finset.univ) : sProp 𝕄)
        ⊢ (Rd (F := F) m p).payload (cell (peer p x.1 c) (iR x)) 0 0 := by
    refine Entails.of_eq ((pointsTo_congr (hland fd)).trans ?_)
    rw [payload_recv]; unfold landPt oPt; rw [Equiv.symm_apply_apply]
  have hN : (oC c x.2).view.amount (.dma (recvS x)) = NC := oC_credit c x.2
  unfold St
  iintro ⟨HR, #Hrec, #Hlev, ⟨%W, HO⟩, Hs, Hr, Hao, Hai⟩
  ihave Hs' := (snd_take m p c (tS x) (tS x + 1) x (snd_start x) (snd_at x).1 (snd_at x).2) $$ Hs
  icases Hs' with ⟨Hx, Hback⟩
  simp only [sndSt, sndPre, oAny]
  icases Hx with ⟨⟨HtS, HtR, Hat, ⟨%fd, Hd⟩⟩, Hsrc⟩
  ihave Hsrc' := (Entails.of_eq hsp) $$ Hsrc
  unfold oPt
  iapply (Rounds.wp_send_pointsTo 𝒱₀ ER (Rd m p) (c : Thread nD τ) none (κ₁ := K (c, iS x)) (κ₂ := K (peer p x.1 c, iR x))
    (r₁ := 0) (r₂ := 0) (d₁ := 0) (d₂ := 0) (fd := fd)
    (duty_zero m p c (iS x) (by rintro ⟨⟩)) (duty_zero m p (peer p x.1 c) (iR x) (by rintro ⟨⟩))
    () () NC hN (amount_send m p c x 0) (amount_recv m p (peer p x.1 c) x 0) (ow p c (tS x + 1)) (ow_send p c x) (W := W)
    hpay₁ (hpay₂ fd)) $$ [Hsrc' Hd HO HtS HtR]
  · isplitr; · iapply (inv_at m p K c (iS x)); iexact Hrec
    isplitr; · iapply (inv_at m p K (peer p x.1 c) (iR x)); iexact Hrec
    isplitl [Hsrc']; · iexact Hsrc'
    isplitl [Hd]; · iexact Hd
    isplitl [HO]; · iexact HO
    isplitl [HtS]; · iexact HtS
    isplitr; · iapply (reached_at m p K c (iS x)); iexact Hrec
    isplitl [HtR]; · iexact HtR
    iapply (reached_at m p K (peer p x.1 c) (iR x)); iexact Hrec
  iintro ⟨Hc, HO⟩
  ihave Hs := Hback $$ [Hc Hat]
  · isplitl [Hc] <;> iassumption
  ihave Hr' := (Entails.of_eq (rcv_same m p c _ _ (rcv_start x))) $$ Hr
  ihave Hao' := (Entails.of_eq (ackOut_same p c _ (Nat.ne_of_lt (tS_le x)))) $$ Hao
  ihave Hai' := (Entails.of_eq (ackIn_same c _ (Nat.ne_of_lt ((tS_le x).trans (by decide))))) $$ Hai
  iapply h
  unfold St
  isplitl [HR]; · iexact HR
  isplitr; · iexact Hrec
  isplitr; · iexact Hlev
  isplitl [HO]; · iexists W; iexact HO
  isplitl [Hs]; · iexact Hs
  isplitl [Hr']; · iexact Hr'
  isplitl [Hao'] <;> iassumption

/-- Chunk `x` of the send buffer is sent along the column. -/
theorem step_column (R : sProp 𝕄) (x : Xf) {n n' : ℕ} (hop : opAt n = x) (hx : x.1 = 0) (ht : tS x = n) (hn' : n' = n + 1)
    {src : Memref sig .tc .vmem S32x1024 .bf16} {dst : Memref sig .tc .hbm S32x1024 .bf16} (hs : src = sC x.2) (hd : dst = oC c x.2)
    {e : Dev nD} (he : e = peer p x.1 c) {qs qr : DmaSem sig} (hqs : qs = sendS x) (hqr : qr = recvS x)
    {hsc : (dst : Memref sig (Dev.tc e : Thread nD τ).2.kind .hbm S32x1024 .bf16).view.ref.isScScratch = false}
    {hsrc : src.view.WordExact} {hdst : dst.view.WordExact}
    {hsem : DmaTarget.Typed .vmem (.dma qr) (.remote (Dev.tc e : Thread nD τ) dst (.dma qs) hsc)}
    {α : Type} {Q : α → sProp 𝕄} {k : PUnit → Prog (TpuEff nD τ sig (Elt F) Λ₀ .tc) α}
    (h : St m p K c R n' ⊢ run c (k ⟨⟩) Q) :
    St m p K c R n ⊢ run c (.op (.enqueueDma src (.remote (Dev.tc e : Thread nD τ) dst (.dma qs) hsc) (.dma qr) hsrc hdst hsem) k) Q := by
  have h1 : srcPt m p c x = (((sC x.2).view.loc (c : Thread nD τ)) ↦[(sC x.2).view.set]{fullShare} sendF m c) := if_pos hx
  have h2 : ∀ fd : (main_v1 : Ref sig .tc).ty.Contents (Elt F), ∀ i ∈ cset c x.2,
      (oC c x.2).view.write (Elt F) fd ((sC x.2).view.read (Elt F) (sendF m c)) Finset.univ i = outF m p (peer p x.1 c) i := by
    rw [hx]; exact land_col m p c x.2
  subst ht hn' hs hd he hqs hqr
  exact run_start m p K c R x h1 h2 h

/-- Chunk `x` of the device's own quarter is sent on within the plane. -/
theorem step_plane (R : sProp 𝕄) (x : Xf) {n n' : ℕ} (hop : opAt n = x) (hx : x.1 ≠ 0) (ht : tS x = n) (hn' : n' = n + 1)
    {src : Memref sig .tc .hbm S32x1024 .bf16} {dst : Memref sig .tc .hbm S32x1024 .bf16} (hs : src = oC c x.2) (hd : dst = oC c x.2)
    {e : Dev nD} (he : e = peer p x.1 c) {qs qr : DmaSem sig} (hqs : qs = sendS x) (hqr : qr = recvS x)
    {hsc : (dst : Memref sig (Dev.tc e : Thread nD τ).2.kind .hbm S32x1024 .bf16).view.ref.isScScratch = false}
    {hsrc : src.view.WordExact} {hdst : dst.view.WordExact}
    {hsem : DmaTarget.Typed .hbm (.dma qr) (.remote (Dev.tc e : Thread nD τ) dst (.dma qs) hsc)}
    {α : Type} {Q : α → sProp 𝕄} {k : PUnit → Prog (TpuEff nD τ sig (Elt F) Λ₀ .tc) α}
    (h : St m p K c R n' ⊢ run c (k ⟨⟩) Q) :
    St m p K c R n ⊢ run c (.op (.enqueueDma src (.remote (Dev.tc e : Thread nD τ) dst (.dma qs) hsc) (.dma qr) hsrc hdst hsem) k) Q := by
  have h1 : srcPt m p c x = (((oC c x.2).view.loc (c : Thread nD τ)) ↦[(oC c x.2).view.set]{third x.1} outF m p c) := if_neg hx
  have h2 : ∀ fd : (main_v1 : Ref sig .tc).ty.Contents (Elt F), ∀ i ∈ cset c x.2,
      (oC c x.2).view.write (Elt F) fd ((oC c x.2).view.read (Elt F) (outF m p c)) Finset.univ i = outF m p (peer p x.1 c) i := by
    exact land_plane m p x.1 hx c x.2
  subst ht hn' hs hd he hqs hqr
  exact run_start m p K c R x h1 h2 h

/-! ## Waiting for a transfer -/

omit [FloatOps F] in
/-- Once nothing is owed every wait is allowed. -/
theorem mayWait_free (sm : SemLoc sig) (n : ℕ) (h : tA < n) : (levAts L lv : sProp 𝕄) ⊢ MayWait (c : Thread nD τ) sm () (ow p c n) := by
  rw [ow_zero p c n h, MayWait_zero]; iintro -; iempintro

omit [FloatOps F] in
/-- The column partners have the same quarter. -/
theorem cset_column (j : Fin 8) : cset ((peer p 0).symm c) j = cset c j := by
  ext i
  have h := mk_col (dX c) (dY c) (p.symm (dZ c)) (dZ c)
  rw [oC_mem, oC_mem, peer_zero_symm, h.1, h.2, mk_eta]

omit [FloatOps F] in
/-- What lands along the column, in the three shares the plane transfers read. -/
theorem land_thirds (j : Fin 8) : landPt m p c (0, j) ⊢ iprop(srcPt m p c (1, j) ∗ srcPt m p c (2, j) ∗ srcPt m p c (3, j)) := by
  unfold landPt srcPt oPt
  rw [if_neg (by show (1 : Fin 4) ≠ 0; decide), if_neg (by show (2 : Fin 4) ≠ 0; decide), if_neg (by show (3 : Fin 4) ≠ 0; decide), cset_column p c j]
  exact (pointsTo_share (PosShare.mem_left_op_right fullShare)).1.trans
    (sep_mono_right (pointsTo_share (PosShare.mem_left_op_right (PosShare.right fullShare))).1)

omit [FloatOps F] in
theorem pay_thirds (j : Fin 8) : (Rd (F := F) m p).payload ((c : Thread nD τ), .dma (recvS (0, j))) 0 0
    ⊢ iprop(srcPt m p c (1, j) ∗ srcPt m p c (2, j) ∗ srcPt m p c (3, j)) :=
  (Entails.of_eq (payload_recv m p c (0, j) 0)).trans (land_thirds m p c j)
omit [FloatOps F] in
theorem pay_recv (x : Xf) : (Rd (F := F) m p).payload ((c : Thread nD τ), .dma (recvS x)) 0 0 ⊢ landPt m p c x :=
  Entails.of_eq (payload_recv m p c x 0)
omit [FloatOps F] in
theorem pay_send (x : Xf) : (Rd (F := F) m p).payload ((c : Thread nD τ), .dma (sendS x)) 0 0 ⊢ srcPt m p c x :=
  Entails.of_eq (payload_send m p c x 0)

/-- Chunk `j` has come along the column: the device's own chunk, to be sent on. -/
theorem step_land_column (R : sProp 𝕄) (j : Fin 8) {n n' : ℕ} (hop : opAt n = (0, j)) (ht : tR (0, j) = n) (hn' : n' = n + 1)
    {q : DmaSem sig} (hq : q = recvS (0, j))
    {sp : Space} {s : Shape} {e : EltTy} {src : Memref sig .tc sp s e} {dst : Memref sig .tc .hbm S32x1024 .bf16} (hd : dst = oC c j)
    {hsrc : src.view.WordExact} {hdst : dst.view.WordExact}
    {α : Type} {Q : α → sProp 𝕄} {k : PUnit → Prog (TpuEff nD τ sig (Elt F) Λ₀ .tc) α}
    (h : St m p K c R n' ⊢ run c (k ⟨⟩) Q) :
    St m p K c R n ⊢ run c (.op (.waitDma2 q src dst hsrc hdst) k) Q := by
  subst ht hn' hq hd
  unfold St
  iintro ⟨HR, #Hrec, #Hlev, ⟨%W, HO⟩, Hs, Hr, Hao, Hai⟩
  ihave Hr' := (rcv_take m p c (tR (0, j)) (tR (0, j) + 1) (0, j) (rcv_land (0, j)) (land_at (0, j)).1 (land_at (0, j)).2) $$ Hr
  icases Hr' with ⟨Hx, Hback⟩
  simp only [rcvSt]
  icases Hx with ⟨Hc, Hat⟩
  iapply (wait_dma m p c (recvS (0, j)) (K (c, iR (0, j))) NC (duties_one m p c (iR (0, j)) (by rintro ⟨⟩))
    ((expect_one m p c (iR (0, j)) (by rintro ⟨⟩)).trans (amount_recv m p c (0, j) 0)) (ow p c (tR (0, j))) W (oC_credit c j)) $$ [Hc HO Hat]
  · isplitr; · iapply (inv_at m p K c (iR (0, j))); iexact Hrec
    isplitl [Hc]; · iexact Hc
    isplitl [HO]; · iexact HO
    isplitr; · iapply (mayWait_recv p c j); iexact Hlev
    iexact Hat
  iintro ⟨HO, Hz, Hpay⟩
  ihave Hland := (pay_thirds m p c j) $$ Hpay
  icases Hland with ⟨H1, H2, H3⟩
  ihave Hr := Hback $$ [Hz]
  · isplitl [Hz]; · iexact Hz
    unfold kept; rw [if_pos rfl]; iempintro
  ihave Hs' := (snd_take3 m p c j) $$ Hs
  icases Hs' with ⟨⟨P1, P2, P3⟩, Hback⟩
  ihave Hs := Hback $$ [P1 P2 P3 H1 H2 H3]
  · simp only [sndSt]
    isplitl [P1 H1]; · isplitl [P1] <;> iassumption
    isplitl [P2 H2]; · isplitl [P2] <;> iassumption
    isplitl [P3] <;> iassumption
  ihave HO' := (Entails.of_eq (congrArg (fun O => owes (c : Thread nD τ) O _) (ow_same p c (tR (0, j)) (fun x => tS_ne_tR x (0, j)) (tR_ne (0, j)).1.symm))) $$ HO
  ihave Hao' := (Entails.of_eq (ackOut_same p c _ (tR_ne (0, j)).1)) $$ Hao
  ihave Hai' := (Entails.of_eq (ackIn_same c _ (Nat.ne_of_lt (tR_ne (0, j)).2))) $$ Hai
  iapply h
  unfold St
  isplitl [HR]; · iexact HR
  isplitr; · iexact Hrec
  isplitr; · iexact Hlev
  isplitl [HO']; · iexists _; iexact HO'
  isplitl [Hs]; · iexact Hs
  isplitl [Hr]; · iexact Hr
  isplitl [Hao'] <;> iassumption

/-- Chunk `j` has come from the plane partner `k`. -/
theorem step_land_plane (R : sProp 𝕄) (k : Fin 4) (j : Fin 8) {n n' : ℕ} (hop : opAt n = (k, j)) (hk : k ≠ 0) (ht : tR (k, j) = n) (hn' : n' = n + 1)
    {q : DmaSem sig} (hq : q = recvS (k, j))
    {sp : Space} {s : Shape} {e : EltTy} {src : Memref sig .tc sp s e} {dst : Memref sig .tc .hbm S32x1024 .bf16} (hd : dst = oC c j)
    {hsrc : src.view.WordExact} {hdst : dst.view.WordExact}
    {α : Type} {Q : α → sProp 𝕄} {κ : PUnit → Prog (TpuEff nD τ sig (Elt F) Λ₀ .tc) α}
    (h : St m p K c R n' ⊢ run c (κ ⟨⟩) Q) :
    St m p K c R n ⊢ run c (.op (.waitDma2 q src dst hsrc hdst) κ) Q := by
  subst ht hn' hq hd
  unfold St
  iintro ⟨HR, #Hrec, #Hlev, ⟨%W, HO⟩, Hs, Hr, Hao, Hai⟩
  ihave Hr' := (rcv_take m p c (tR (k, j)) (tR (k, j) + 1) (k, j) (rcv_land (k, j)) (land_at (k, j)).1 (land_at (k, j)).2) $$ Hr
  icases Hr' with ⟨Hx, Hback⟩
  simp only [rcvSt]
  icases Hx with ⟨Hc, Hat⟩
  iapply (wait_dma m p c (recvS (k, j)) (K (c, iR (k, j))) NC (duties_one m p c (iR (k, j)) (by rintro ⟨⟩))
    ((expect_one m p c (iR (k, j)) (by rintro ⟨⟩)).trans (amount_recv m p c (k, j) 0)) (ow p c (tR (k, j))) W (oC_credit c j)) $$ [Hc HO Hat]
  · isplitr; · iapply (inv_at m p K c (iR (k, j))); iexact Hrec
    isplitl [Hc]; · iexact Hc
    isplitl [HO]; · iexact HO
    isplitr; · iapply (mayWait_free p c _ _ (tR_plane (k, j) hk)); iexact Hlev
    iexact Hat
  iintro ⟨HO, Hz, Hpay⟩
  ihave Hland := (pay_recv m p c (k, j)) $$ Hpay
  ihave Hr := Hback $$ [Hz Hland]
  · isplitl [Hz]; · iexact Hz
    unfold kept; rw [if_neg hk]; iexact Hland
  ihave Hs' := (Entails.of_eq (snd_same m p c _ _ fun y => snd_land (k, j) y hk)) $$ Hs
  ihave HO' := (Entails.of_eq (congrArg (fun O => owes (c : Thread nD τ) O _) (ow_same p c (tR (k, j)) (fun x => tS_ne_tR x (k, j)) (tR_ne (k, j)).1.symm))) $$ HO
  ihave Hao' := (Entails.of_eq (ackOut_same p c _ (tR_ne (k, j)).1)) $$ Hao
  ihave Hai' := (Entails.of_eq (ackIn_same c _ (Nat.ne_of_lt (tR_ne (k, j)).2))) $$ Hai
  iapply h
  unfold St
  isplitl [HR]; · iexact HR
  isplitr; · iexact Hrec
  isplitr; · iexact Hlev
  isplitl [HO']; · iexists _; iexact HO'
  isplitl [Hs']; · iexact Hs'
  isplitl [Hr]; · iexact Hr
  isplitl [Hao'] <;> iassumption

/-- Transfer `x` has left: what it read is the device's again. -/
theorem step_left (R : sProp 𝕄) (x : Xf) {n n' : ℕ} (hop : opAt n = x) (ht : tW x = n) (hn' : n' = n + 1)
    {q : DmaSem sig} (hq : q = sendS x)
    {sp sp' : Space} {s s' : Shape} {e e' : EltTy} {src : Memref sig .tc sp s e} {dst : Memref sig .tc sp' s' e'}
    {hsrc : src.view.WordExact} {hdst : dst.view.WordExact} (hN : dst.view.dmaCredit = NC)
    {α : Type} {Q : α → sProp 𝕄} {k : PUnit → Prog (TpuEff nD τ sig (Elt F) Λ₀ .tc) α}
    (h : St m p K c R n' ⊢ run c (k ⟨⟩) Q) :
    St m p K c R n ⊢ run c (.op (.waitDma2 q src dst hsrc hdst) k) Q := by
  subst ht hn' hq
  unfold St
  iintro ⟨HR, #Hrec, #Hlev, ⟨%W, HO⟩, Hs, Hr, Hao, Hai⟩
  ihave Hs' := (snd_take m p c (tW x) (tW x + 1) x (snd_left x) (left_at x).1 (left_at x).2) $$ Hs
  icases Hs' with ⟨Hx, Hback⟩
  simp only [sndSt]
  icases Hx with ⟨Hc, Hat⟩
  iapply (wait_dma m p c (sendS x) (K (c, iS x)) NC (duties_one m p c (iS x) (by rintro ⟨⟩))
    ((expect_one m p c (iS x) (by rintro ⟨⟩)).trans (amount_send m p c x 0)) (ow p c (tW x)) W hN) $$ [Hc HO Hat]
  · isplitr; · iapply (inv_at m p K c (iS x)); iexact Hrec
    isplitl [Hc]; · iexact Hc
    isplitl [HO]; · iexact HO
    isplitr; · iapply (mayWait_free p c _ _ (tW_ne x).1); iexact Hlev
    iexact Hat
  iintro ⟨HO, Hz, Hpay⟩
  ihave Hsrc := (pay_send m p c x) $$ Hpay
  ihave Hs := Hback $$ [Hz Hsrc]
  · isplitl [Hz]; · iexact Hz
    iexact Hsrc
  ihave Hr' := (Entails.of_eq (rcv_same m p c _ _ (rcv_left x))) $$ Hr
  ihave HO' := (Entails.of_eq (congrArg (fun O => owes (c : Thread nD τ) O _) (ow_same p c (tW x) (fun y => tS_ne_tW y x) (Nat.ne_of_lt (tW_ne x).1)))) $$ HO
  ihave Hao' := (Entails.of_eq (ackOut_same p c _ (Nat.ne_of_gt (tW_ne x).1))) $$ Hao
  ihave Hai' := (Entails.of_eq (ackIn_same c _ (Nat.ne_of_lt (tW_ne x).2))) $$ Hai
  iapply h
  unfold St
  isplitl [HR]; · iexact HR
  isplitr; · iexact Hrec
  isplitr; · iexact Hlev
  isplitl [HO']; · iexists _; iexact HO'
  isplitl [Hs]; · iexact Hs
  isplitl [Hr']; · iexact Hr'
  isplitl [Hao'] <;> iassumption

/-- A transfer along the column has left the send buffer. -/
theorem step_left_column (R : sProp 𝕄) (j : Fin 8) {n n' : ℕ} (hop : opAt n = (0, j)) (ht : tW (0, j) = n) (hn' : n' = n + 1)
    {q : DmaSem sig} (hq : q = sendS (0, j))
    {sp : Space} {s : Shape} {e : EltTy} {src : Memref sig .tc sp s e} {dst : Memref sig .tc .vmem S32x1024 .bf16} (hd : dst = sC j)
    {hsrc : src.view.WordExact} {hdst : dst.view.WordExact}
    {α : Type} {Q : α → sProp 𝕄} {k : PUnit → Prog (TpuEff nD τ sig (Elt F) Λ₀ .tc) α}
    (h : St m p K c R n' ⊢ run c (k ⟨⟩) Q) :
    St m p K c R n ⊢ run c (.op (.waitDma2 q src dst hsrc hdst) k) Q := by
  subst hd
  exact step_left m p K c R (0, j) hop ht hn' hq (sC_credit j) h

/-- A transfer within the plane has left the device's own chunk. -/
theorem step_left_plane (R : sProp 𝕄) (x : Xf) {n n' : ℕ} (hop : opAt n = x) (ht : tW x = n) (hn' : n' = n + 1)
    {q : DmaSem sig} (hq : q = sendS x)
    {sp : Space} {s : Shape} {e : EltTy} {src : Memref sig .tc sp s e} {dst : Memref sig .tc .hbm S32x1024 .bf16} (hd : dst = oC c x.2)
    {hsrc : src.view.WordExact} {hdst : dst.view.WordExact}
    {α : Type} {Q : α → sProp 𝕄} {k : PUnit → Prog (TpuEff nD τ sig (Elt F) Λ₀ .tc) α}
    (h : St m p K c R n' ⊢ run c (k ⟨⟩) Q) :
    St m p K c R n ⊢ run c (.op (.waitDma2 q src dst hsrc hdst) k) Q := by
  subst hd
  exact step_left m p K c R x hop ht hn' hq (oC_credit c x.2) h

/-! ## The acknowledgement -/

omit [FloatOps F] in
theorem pay_ack : (iprop(emp) : sProp 𝕄) ⊢ (Rd (F := F) m p).payload ((c : Thread nD τ), .reg ackS) 0 0 :=
  Entails.of_eq (payload_ack m p c 0).symm

/-- The device tells the one whose slab came here that it has all of it. -/
theorem step_ack (R : sProp 𝕄) {e : Dev nD} (he : e = (peer p 0).symm c) {s : Sem sig} (hs : s = ackS) {a : ℤ} (ha : a = ((1 : ℕ) : ℤ))
    {α : Type} {Q : α → sProp 𝕄} {k : PUnit → Prog (TpuEff nD τ sig (Elt F) Λ₀ .tc) α}
    (h : St m p K c R 41 ⊢ run c (k ⟨⟩) Q) :
    St m p K c R 40 ⊢ run c (.op (.semSignal (e : Thread nD τ) s a) k) Q := by
  subst he hs ha
  unfold St
  iintro ⟨HR, #Hrec, #Hlev, ⟨%W, HO⟩, Hs, Hr, Hao, Hai⟩
  ihave Hao := (Entails.of_eq (show ackOut (F := F) p c 40 = dutyTok ER (cell ((peer p 0).symm c) iA) 0 0 from if_neg (by decide))) $$ Hao
  iapply (Rounds.wp_signal 𝒱₀ ER (Rd m p) (c : Thread nD τ) none (dst := ((peer p 0).symm c : Thread nD τ)) (κ := K ((peer p 0).symm c, iA))
      (d := 0) (duty_zero m p ((peer p 0).symm c) iA (by decide)) (amount_reg m p ((peer p 0).symm c) ackS 0) () (ow p c 41) (ow_ack p c))
    $$ [HO Hao]
  · isplitr; · iapply (inv_at m p K ((peer p 0).symm c) iA); iexact Hrec
    isplitl [HO]; · iexact HO
    isplitl [Hao]; · iexact Hao
    isplitr; · iapply (pay_ack m p ((peer p 0).symm c)); iempintro
    iapply (reached_at m p K ((peer p 0).symm c) iA); iexact Hrec
  iintro HO
  ihave Hs' := (Entails.of_eq (snd_same m p c _ _ fun y => (snd_ack y).1)) $$ Hs
  ihave Hr' := (Entails.of_eq (rcv_same m p c _ _ fun y => (rcv_ack y).1)) $$ Hr
  ihave Hai' := (Entails.of_eq (ackIn_same c 40 (by decide))) $$ Hai
  iapply h
  unfold St
  isplitl [HR]; · iexact HR
  isplitr; · iexact Hrec
  isplitr; · iexact Hlev
  isplitl [HO]; · iexists W; iexact HO
  isplitl [Hs']; · iexact Hs'
  isplitl [Hr']; · iexact Hr'
  isplitr; · unfold ackOut; rw [if_pos (by decide)]; iempintro
  iexact Hai'

/-- It waits for the same word from the device it sent to. -/
theorem step_end (R : sProp 𝕄) {s : Sem sig} (hs : s = ackS) {a : ℤ} (ha : a = ((1 : ℕ) : ℤ))
    {α : Type} {Q : α → sProp 𝕄} {k : PUnit → Prog (TpuEff nD τ sig (Elt F) Λ₀ .tc) α}
    (h : St m p K c R 98 ⊢ run c (k ⟨⟩) Q) :
    St m p K c R 97 ⊢ run c (.op (.semWait s a) k) Q := by
  subst hs ha
  unfold St
  iintro ⟨HR, #Hrec, #Hlev, ⟨%W, HO⟩, Hs, Hr, Hao, Hai⟩
  ihave Hai := (Entails.of_eq (show ackIn (F := F) c 97 = iprop(cred (tallyAt (cell c iA) () 1) ∗ atPos ER (cell c iA) 0 ∅ 0) from if_neg (by decide))) $$ Hai
  icases Hai with ⟨Hc, Hat⟩
  iapply (Rounds.wp_wait_rest_token 𝒱₀ ER (Rd m p) (c : Thread nD τ) none (κ := K (c, iA))
      (wpE_semWait_eq 𝒱₀ (c : Thread nD τ) none Set.univ) (Set.mem_univ _) () (O := ow p c 97) (W := W) (R := 0) (m := 0) (T := ∅)
      (by rw [Nat.zero_add]; exact (expect_one m p c iA (by decide)).symm)) $$ [Hc HO Hat]
  · isplitr; · iapply (inv_at m p K c iA); iexact Hrec
    isplitl [Hc]; · iexact Hc
    isplitl [HO]; · iexact HO
    isplitr; · iapply (mayWait_free p c (csem iA) 97 (by decide)); iexact Hlev
    iexact Hat
  iintro ⟨HO, Hat, -, -⟩
  imod (Rounds.cell_close ER (Rd m p) (Set.mem_univ (K (c, iA))) (fun h => h) (R := 0 + 1) (duties_later m p (cell c iA))) $$ [Hat] with Hz
  · isplitr; · iapply (inv_at m p K c iA); iexact Hrec
    iexact Hat
  ihave Hs' := (Entails.of_eq (snd_same m p c _ _ fun y => (snd_ack y).2)) $$ Hs
  ihave Hr' := (Entails.of_eq (rcv_same m p c _ _ fun y => (rcv_ack y).2)) $$ Hr
  ihave Hao' := (Entails.of_eq (ackOut_same p c 97 (by decide))) $$ Hao
  ihave HO' := (Entails.of_eq (congrArg (fun O => owes (c : Thread nD τ) O _) ((ow_zero p c 97 (by decide)).trans (ow_zero p c 98 (by decide)).symm))) $$ HO
  iapply h
  unfold St
  isplitl [HR]; · iexact HR
  isplitr; · iexact Hrec
  isplitr; · iexact Hlev
  isplitl [HO']; · iexists _; iexact HO'
  isplitl [Hs']; · iexact Hs'
  isplitl [Hr']; · iexact Hr'
  isplitl [Hao']; · iexact Hao'
  unfold ackIn; rw [if_pos (by decide)]; iexact Hz

end Start

end Cert.Permute

end
-- ==== Proof.Entry.lean ====
/-
# Before the first transfer

The device reads the table, copies the quarter it sends into its own memory, tells the five devices that write to it or read
from it that it is here, and waits for the same word from the five. What it then holds is what it holds before step `0`.
-/
module

public import proofs.«01_k».proof.Proof.Steps
public import proofs.«01_k».proof.Proof.Gen.KernelIdeal.Skeleton

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (p : Equiv.Perm (Fin 4))

section Entry
variable (K : Dev nD × Ci → ℕ) (c : Dev nD)

/-! ## What is held -/

/-- The table, as staged. -/
def piF : (cc0_stg0_0 : Ref sig .tc).ty.Contents (Elt F) := fun i => tw p (i 0)
def piPt : sProp 𝕄 := ((c : Thread nD τ).loc cc0_stg0_0) ↦{fullShare} piF p

/-- The local copy: not started, running, done. -/
def locSt : ℕ → sProp 𝕄
  | 0 => iprop(dutyTok ER (cell c iL) 0 0 ∗ atPos ER (cell c iL) 0 ∅ 0 ∗ xPt m c ∗ ∃ f : (cc0_scratch0 : Ref sig .tc).ty.Contents (Elt F), ((c : Thread nD τ).loc cc0_scratch0) ↦{fullShare} f)
  | 1 => iprop(cred (tallyAt (cell c iL) () NL) ∗ atPos ER (cell c iL) 0 ∅ 0)
  | _ => iprop(semVal (cell c iL) 0 ∗ qPt m c ∗ xPt m c)

/-- The send buffer: anything, then the quarter. -/
def bufSt : Bool → sProp 𝕄
  | false => iprop(∃ f : (cc0_scratch1 : Ref sig .tc).ty.Contents (Elt F), ((c : Thread nD τ).loc cc0_scratch1) ↦{fullShare} f)
  | true => ((c : Thread nD τ).loc cc0_scratch1) ↦{fullShare} sendF m c

/-- What the signals in `S`, not yet sent, take: the token of each, and what it brings. -/
def sigs (S : Finset Du) : sProp 𝕄 := bigSep S fun d => iprop(dutyTok ER (cell (barTo p d c) iB) 0 d ∗ barPay (F := F) p (barTo p d c) d)

/-- What the device holds before the barrier: the signals of `S` not sent, the local copy at `l`, the send buffer at `b`,
    and `A` that nothing here touches. -/
def Bs (A : sProp 𝕄) (S : Finset Du) (l : ℕ) (b : Bool) : sProp 𝕄 :=
  iprop(A ∗ records m p K ∗ levAts L lv ∗ (∃ W, owes (c : Thread nD τ) (owB p c S) W) ∗ sigs p c S ∗ piPt p c ∗ locSt m c l ∗ bufSt m c b)

/-! ## Reading the table -/

abbrev piM : Memref sig .tc .smem S4 .i32 := Memref.whole cc0_stg0_0

/-- Word `i` of the table is read. -/
theorem step_word (A : sProp 𝕄) (S : Finset Du) (l : ℕ) (b : Bool) (i : Fin 4) {off : Fin S4.rank → ℕ} {inb : ∀ a, off a + S1.size a ≤ S4.size a} (ho : off 0 = i.val)
    {hl : piM.view.LoadsAt (Rect.unit (s := S4) off S1.size inb).toLoadRect}
    {α : Type} {Q : α → sProp 𝕄} {k : Vec F S1 .i32 → Prog (TpuEff nD τ sig (Elt F) Λ₀ .tc) α}
    (h : Bs m p K c A S l b ⊢ run c (k fun _ => tw p i) Q) :
    Bs m p K c A S l b ⊢ run c (.op (.load piM (Rect.unit (s := S4) off S1.size inb).toLoadRect hl) k) Q := by
  have hv : (piM.access (Rect.unit (s := S4) off S1.size inb)).read (Elt F) (piF p) = fun _ => tw p i := by
    funext x
    show tw p _ = tw p i
    refine congrArg (tw p) (Fin.ext ?_)
    show off 0 + 1 * (x 0).val = i.val
    have : (x 0).val < 1 := (x 0).isLt
    omega
  have h' : ∀ v : Vec F S1 .i32, v = (fun _ => tw p i) → Bs m p K c A S l b ⊢ run c (k v) Q := by rintro _ rfl; exact h
  replace h := h' _ hv
  unfold Bs piPt at h ⊢
  iintro ⟨HA, Hrec, Hlev, HO, Hsg, Hpi, Hl, Hb⟩
  iapply (wp_load_rect 𝒱₀ (c : Thread nD τ) none Set.univ (m := piM) (r := Rect.unit (s := S4) off S1.size inb) (Finset.subset_univ _)) $$ Hpi
  iintro Hpi
  iapply h
  isplitl [HA]; · iexact HA
  isplitl [Hrec]; · iexact Hrec
  isplitl [Hlev]; · iexact Hlev
  isplitl [HO]; · iexact HO
  isplitl [Hsg]; · iexact Hsg
  isplitl [Hpi]; · iexact Hpi
  isplitl [Hl] <;> iassumption

omit [FloatOps F] in
/-- What the program assumes holds. -/
theorem step_assume {A : sProp 𝕄} {P : Prop} {d : Decidable P} (hP : P)
    {α : Type} {Q : α → sProp 𝕄} {k : PLift P → Prog (TpuEff nD τ sig (Elt F) Λ₀ .tc) α}
    (h : A ⊢ wp frame (wpE (defs₀ (F := F)) 𝒱₀ (c : Thread nD τ) none) Set.univ (k ⟨hP⟩) Q) :
    A ⊢ wp frame (wpE (defs₀ (F := F)) 𝒱₀ (c : Thread nD τ) none) Set.univ (.op (.assume P d) k) Q := by
  rw [wp_assume_of 𝒱₀ (c : Thread nD τ) none Set.univ hP]; exact h

omit [FloatOps F] in
theorem step_id {A : sProp 𝕄} {α : Type} {Q : α → sProp 𝕄} {k : Dev nD → Prog (TpuEff nD τ sig (Elt F) Λ₀ .tc) α}
    (h : A ⊢ wp frame (wpE (defs₀ (F := F)) 𝒱₀ (c : Thread nD τ) none) Set.univ (k c) Q) :
    A ⊢ wp frame (wpE (defs₀ (F := F)) 𝒱₀ (c : Thread nD τ) none) Set.univ (.op .deviceId k) Q := by
  rw [wp_deviceId]; exact h

/-! ## The local copy -/

theorem lv_local : lvS (.dma localS) = 0 := by simp only [lvS, isSend_localS, if_true]

/-- What the copy leaves is what its semaphore's round brings. -/
theorem pay_local (f : (cc0_scratch0 : Ref sig .tc).ty.Contents (Elt F)) :
    iprop((((qbM : Memref sig .tc .vmem S256x1024 .bf16).view.loc (c : Thread nD τ)) ↦[(qbM : Memref sig .tc .vmem S256x1024 .bf16).view.set]{fullShare}
        ((qbM : Memref sig .tc .vmem S256x1024 .bf16).view.write (Elt F) f ((xQ c).view.read (Elt F) (inp m c)) Finset.univ))
      ∗ (((xQ c).view.loc (c : Thread nD τ)) ↦[(xQ c).view.set]{fullShare} inp m c)) ⊢ (Rd (F := F) m p).payload ((c : Thread nD τ), .dma localS) 0 0 := by
  have hp : (Rd (F := F) m p).payload ((c : Thread nD τ), .dma localS) 0 0 = iprop(qPt m c ∗ xPt m c) := payload_local m p c 0
  have hq : (((qbM : Memref sig .tc .vmem S256x1024 .bf16).view.loc (c : Thread nD τ)) ↦[(qbM : Memref sig .tc .vmem S256x1024 .bf16).view.set]{fullShare}
      ((qbM : Memref sig .tc .vmem S256x1024 .bf16).view.write (Elt F) f ((xQ c).view.read (Elt F) (inp m c)) Finset.univ) : sProp 𝕄) = qPt m c :=
    congrArg₂ (fun I g => (((c : Thread nD τ).loc cc0_scratch0) ↦[I]{fullShare} g : sProp 𝕄)) (View.set_whole cc0_scratch0)
      (View.write_whole_univ (Val := Elt F) cc0_scratch0 f (sendF m c))
  rw [hp]
  iintro ⟨Hq, Hx⟩
  isplitl [Hq]; · iapply (Entails.of_eq hq); iexact Hq
  unfold xPt; iexact Hx

theorem step_copy (A : sProp 𝕄) (S : Finset Du) (b : Bool) {src : Memref sig .tc .hbm S256x1024 .bf16} (hs : src = xQ c)
    {s : DmaSem sig} (hsm : s = localS)
    {hsrc : src.view.WordExact} {hdst : qbM.view.WordExact} {hsem : DmaTarget.Typed (nD := nD) (τ := τ) (p := .tc) .hbm (.dma s) (.here qbM)}
    {α : Type} {Q : α → sProp 𝕄} {k : PUnit → Prog (TpuEff nD τ sig (Elt F) Λ₀ .tc) α}
    (h : Bs m p K c A S 1 b ⊢ run c (k ⟨⟩) Q) :
    Bs m p K c A S 0 b ⊢ run c (.op (.enqueueDma src (.here qbM) (.dma s) hsrc hdst hsem) k) Q := by
  subst hs hsm
  unfold Bs at h ⊢
  iintro ⟨HA, #Hrec, Hlev, HO, Hsg, Hpi, Hl, Hb⟩
  simp only [locSt] at h ⊢
  icases Hl with ⟨Ht, Hat, Hx, ⟨%f, Hf⟩⟩
  have hf : ((((c : Thread nD τ).loc cc0_scratch0) ↦{fullShare} f : sProp 𝕄))
      = (((qbM : Memref sig .tc .vmem S256x1024 .bf16).view.loc (c : Thread nD τ)) ↦[(qbM : Memref sig .tc .vmem S256x1024 .bf16).view.set]{fullShare} f) :=
    (congrArg (fun I => (((c : Thread nD τ).loc cc0_scratch0) ↦[I]{fullShare} f : sProp 𝕄)) (View.set_whole cc0_scratch0)).symm
  have hN : (qbM : Memref sig .tc .vmem S256x1024 .bf16).view.amount (.dma localS) = NL := rfl
  iapply (Rounds.wp_copy_pointsTo 𝒱₀ ER (Rd m p) (c : Thread nD τ) none (src := xQ c) (dst := qbM) (sem := .dma localS) (κ := K (c, iL)) (r := 0) (d := 0) (fd := f) (fs := inp m c) (q := fullShare)
    (duty_zero m p c iL (by decide)) () NL hN (amount_local m p c 0) (pay_local m p c f)) $$ [Ht Hx Hf]
  · isplitr; · iapply (inv_at m p K c iL); iexact Hrec
    isplitl [Hx]; · unfold xPt; iexact Hx
    isplitl [Hf]; · iapply (Entails.of_eq hf); iexact Hf
    isplitl [Ht]; · iexact Ht
    iapply (reached_at m p K c iL); iexact Hrec
  iintro Hc
  iapply h
  isplitl [HA]; · iexact HA
  isplitr; · iexact Hrec
  isplitl [Hlev]; · iexact Hlev
  isplitl [HO]; · iexact HO
  isplitl [Hsg]; · iexact Hsg
  isplitl [Hpi]; · iexact Hpi
  isplitl [Hc Hat]; · isplitl [Hc]; · iexact Hc
                      iexact Hat
  iexact Hb

/-! ## The barrier's signals -/

theorem step_signal (A : sProp 𝕄) (S T : Finset Du) (l : ℕ) (b : Bool) (d : Du) (hd : d ∈ S) (hT : S.erase d = T) {e : Dev nD} (he : e = barTo p d c)
    {s : Sem sig} (hs : s = barS) {a : ℤ} (ha : a = ((1 : ℕ) : ℤ))
    {α : Type} {Q : α → sProp 𝕄} {k : PUnit → Prog (TpuEff nD τ sig (Elt F) Λ₀ .tc) α}
    (h : Bs m p K c A T l b ⊢ run c (k ⟨⟩) Q) :
    Bs m p K c A S l b ⊢ run c (.op (.semSignal (e : Thread nD τ) s a) k) Q := by
  subst hT he hs ha
  unfold Bs sigs at h ⊢
  rw [fam_split hd]
  iintro ⟨HA, #Hrec, Hlev, ⟨%W, HO⟩, ⟨⟨Ht, Hpay⟩, Hsg⟩, Hpi, Hl, Hb⟩
  iapply (Rounds.wp_signal 𝒱₀ ER (Rd m p) (c : Thread nD τ) none (dst := (barTo p d c : Thread nD τ)) (κ := K (barTo p d c, iB))
      (d := d) (by rw [show ((barTo p d c : Thread nD τ), SemLoc.reg barS) = cell (barTo p d c) iB from rfl, duties_bar]; exact Finset.mem_univ _)
      (amount_reg m p (barTo p d c) barS d) () (owB p c (S.erase d)) (owB_signal p c S d hd)) $$ [HO Ht Hpay]
  · isplitr; · iapply (inv_at m p K (barTo p d c) iB); iexact Hrec
    isplitl [HO]; · iexact HO
    isplitl [Ht]; · iexact Ht
    isplitl [Hpay]; · iapply (Entails.of_eq (show barPay p (barTo p d c) d = (Rd (F := F) m p).payload ((barTo p d c : Thread nD τ), .reg barS) 0 d from (payload_bar m p (barTo p d c) d).symm)); iexact Hpay
    iapply (reached_at m p K (barTo p d c) iB); iexact Hrec
  iintro HO
  iapply h
  isplitl [HA]; · iexact HA
  isplitr; · iexact Hrec
  isplitl [Hlev]; · iexact Hlev
  isplitl [HO]; · iexists W; iexact HO
  isplitl [Hsg]; · iexact Hsg
  isplitl [Hpi]; · iexact Hpi
  isplitl [Hl] <;> iassumption

/-! ## Filling the send buffer -/

theorem step_copied (A : sProp 𝕄) (S : Finset Du) (b : Bool) {s : DmaSem sig} (hsm : s = localS)
    {sp : Space} {s' : Shape} {e : EltTy} {src : Memref sig .tc sp s' e}
    {hsrc : src.view.WordExact} {hdst : qbM.view.WordExact}
    {α : Type} {Q : α → sProp 𝕄} {k : PUnit → Prog (TpuEff nD τ sig (Elt F) Λ₀ .tc) α}
    (h : Bs m p K c A S 2 b ⊢ run c (k ⟨⟩) Q) :
    Bs m p K c A S 1 b ⊢ run c (.op (.waitDma2 s src qbM hsrc hdst) k) Q := by
  subst hsm
  unfold Bs at h ⊢
  iintro ⟨HA, #Hrec, #Hlev, ⟨%W, HO⟩, Hsg, Hpi, Hl, Hb⟩
  simp only [locSt] at h ⊢
  icases Hl with ⟨Hc, Hat⟩
  iapply (wait_dma m p c localS (K (c, iL)) NL (duties_one m p c iL (by decide))
    ((expect_one m p c iL (by decide)).trans (amount_local m p c 0)) (owB p c S) W rfl) $$ [Hc HO Hat]
  · isplitr; · iapply (inv_at m p K c iL); iexact Hrec
    isplitl [Hc]; · iexact Hc
    isplitl [HO]; · iexact HO
    isplitr; · iapply (mayWait_low p c (.dma localS) lv_local S); iexact Hlev
    iexact Hat
  iintro ⟨HO, Hz, Hpay⟩
  iapply h
  isplitl [HA]; · iexact HA
  isplitr; · iexact Hrec
  isplitr; · iexact Hlev
  isplitl [HO]; · iexists _; iexact HO
  isplitl [Hsg]; · iexact Hsg
  isplitl [Hpi]; · iexact Hpi
  isplitl [Hz Hpay]
  · isplitl [Hz]; · iexact Hz
    iapply (Entails.of_eq (show (Rd (F := F) m p).payload ((c : Thread nD τ), .dma localS) 0 0 = iprop(qPt m c ∗ xPt m c) from payload_local m p c 0)); iexact Hpay
  iexact Hb

theorem zeros : (![0, 0] : Fin 2 → ℕ) = fun _ => 0 := funext fun a => by fin_cases a <;> rfl
abbrev allR : Rect S256x1024 := Rect.unit (s := S256x1024) ![0, 0] S256x1024.size inb_S256x1024_S256x1024_0_0

/-- The quarter is read back, the send buffer's old contents are read and not used. -/
theorem step_read (A : sProp 𝕄) (S : Finset Du) (b : Bool) {hl : qbM.view.LoadsAt allR.toLoadRect}
    {α : Type} {Q : α → sProp 𝕄} {k : Vec F S256x1024 .bf16 → Prog (TpuEff nD τ sig (Elt F) Λ₀ .tc) α}
    (h : Bs m p K c A S 2 b ⊢ run c (k (sendF m c)) Q) :
    Bs m p K c A S 2 b ⊢ run c (.op (.load qbM allR.toLoadRect hl) k) Q := by
  have hv : (qbM : Memref sig .tc .vmem S256x1024 .bf16).view.readAt (Elt F) allR.toLoadRect (sendF m c) = sendF m c :=
    Memref.readAt_unit_zero (Elt F) cc0_scratch0 zeros _ _
  rw [← hv] at h
  unfold Bs at h ⊢
  simp only [locSt, qPt] at h ⊢
  iintro ⟨HA, Hrec, Hlev, HO, Hsg, Hpi, ⟨Hz, Hq, Hx⟩, Hb⟩
  iapply (wp_load 𝒱₀ (c : Thread nD τ) none Set.univ (m := qbM) (r := allR.toLoadRect) (Finset.subset_univ _)) $$ Hq
  iintro Hq
  iapply h
  isplitl [HA]; · iexact HA
  isplitl [Hrec]; · iexact Hrec
  isplitl [Hlev]; · iexact Hlev
  isplitl [HO]; · iexact HO
  isplitl [Hsg]; · iexact Hsg
  isplitl [Hpi]; · iexact Hpi
  isplitl [Hz Hq Hx]
  · isplitl [Hz]; · iexact Hz
    isplitl [Hq] <;> iassumption
  iexact Hb

theorem step_old (A : sProp 𝕄) (S : Finset Du) (l : ℕ) {hl : sbM.view.LoadsAt allR.toLoadRect}
    {α : Type} {Q : α → sProp 𝕄} {k : Vec F S256x1024 .bf16 → Prog (TpuEff nD τ sig (Elt F) Λ₀ .tc) α}
    (h : ∀ v, Bs m p K c A S l false ⊢ run c (k v) Q) :
    Bs m p K c A S l false ⊢ run c (.op (.load sbM allR.toLoadRect hl) k) Q := by
  unfold Bs at h ⊢
  simp only [bufSt] at h ⊢
  iintro ⟨HA, Hrec, Hlev, HO, Hsg, Hpi, Hl, ⟨%f, Hb⟩⟩
  iapply (wp_load 𝒱₀ (c : Thread nD τ) none Set.univ (m := sbM) (r := allR.toLoadRect) (Finset.subset_univ _)) $$ Hb
  iintro Hb
  iapply (h _)
  isplitl [HA]; · iexact HA
  isplitl [Hrec]; · iexact Hrec
  isplitl [Hlev]; · iexact Hlev
  isplitl [HO]; · iexact HO
  isplitl [Hsg]; · iexact Hsg
  isplitl [Hpi]; · iexact Hpi
  isplitl [Hl]; · iexact Hl
  iexists f; iexact Hb

/-- The quarter is stored. -/
theorem step_store (A : sProp 𝕄) (S : Finset Du) (l : ℕ) {w : Vec F S256x1024 .bf16} (hw : w = sendF m c)
    {hx : (sbM.access allR).Stores Finset.univ} {hm : (Finset.univ : Finset allR.shape.Idx) = Finset.univ ∨ ∀ a, allR.stride a = 1}
    {α : Type} {Q : α → sProp 𝕄} {k : PUnit → Prog (TpuEff nD τ sig (Elt F) Λ₀ .tc) α}
    (h : Bs m p K c A S l true ⊢ run c (k ⟨⟩) Q) :
    Bs m p K c A S l false ⊢ run c (.op (.store sbM allR w Finset.univ hx hm) k) Q := by
  subst hw
  unfold Bs at h ⊢
  simp only [bufSt] at h ⊢
  iintro ⟨HA, Hrec, Hlev, HO, Hsg, Hpi, Hl, ⟨%f, Hb⟩⟩
  have hv : ((sbM : Memref sig .tc .vmem S256x1024 .bf16).access allR : View sig .tc _ _ _).write (Elt F) f (sendF m c) Finset.univ = sendF m c :=
    Memref.write_access_unit_zero_univ (Elt F) cc0_scratch1 zeros _ f _
  iapply (wp_store 𝒱₀ (c : Thread nD τ) none Set.univ (m := sbM) (r := allR) (Mk := Finset.univ) (Finset.subset_univ _)) $$ Hb
  iintro Hb
  rw [hv]
  iapply h
  isplitl [HA]; · iexact HA
  isplitl [Hrec]; · iexact Hrec
  isplitl [Hlev]; · iexact Hlev
  isplitl [HO]; · iexact HO
  isplitl [Hsg]; · iexact Hsg
  isplitl [Hpi]; · iexact Hpi
  isplitl [Hl] <;> iassumption

/-! ## The barrier -/

omit [FloatOps F] in
/-- The five, or the four, members of a family. -/
theorem fam5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem fam4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem fam_prod (Φ : Xf → sProp 𝕄) : bigSep Finset.univ Φ = bigSep Finset.univ fun k : Fin 4 => bigSep Finset.univ fun j : Fin 8 => Φ (k, j) := bigSep_univ_prod Φ

omit [FloatOps F] in
/-- The barrier brings every transfer's destination. -/
theorem bar_brings : (bigSep Finset.univ fun d : Du => barPay (F := F) p c d) ⊢ bigSep Finset.univ fun x : Xf => oAny (F := F) (peer p x.1 c) c x.2 := by
  have e : ∀ (d : Du) (h : d.val < 4), barPay (F := F) p c d = bigSep Finset.univ fun j : Fin 8 => oAny (peer p ⟨d.val, h⟩ c) c j := fun d h => dif_pos h
  rw [fam5, fam_prod, fam4, e 0 (by decide), e 1 (by decide), e 2 (by decide), e 3 (by decide)]
  iintro ⟨H0, H1, H2, H3, -⟩
  isplitl [H0]; · iexact H0
  isplitl [H1]; · iexact H1
  isplitl [H2]; · iexact H2
  iexact H3

/-- The filled send buffer is the sources of the column transfers. -/
theorem buf_sources : bufSt m c true ⊢ bigSep Finset.univ fun x : Xf => if x.1 = 0 then srcPt m p c x else iprop(emp) := by
  have e : bufSt m c true = bigSep Finset.univ fun j : Fin 8 => sPt m c j :=
    Ring.pointsTo_blocks (ℓ := (c : Thread nD τ).loc cc0_scratch1) sset (fun j j' h => sC_disjoint j j' h) sC_cover (sendF m c)
  rw [e, fam_prod, fam4]
  have h0 : ∀ j : Fin 8, (if ((0 : Fin 4), j).1 = 0 then srcPt m p c (0, j) else iprop(emp)) = sPt m c j := fun j => (if_pos rfl).trans (if_pos rfl)
  have h1 : ∀ (k : Fin 4), k ≠ 0 → (bigSep Finset.univ fun j : Fin 8 => (if (k, j).1 = 0 then srcPt m p c (k, j) else iprop(emp))) = (iprop(emp) : sProp 𝕄) :=
    fun k hk => (bigSep_congr fun j _ => if_neg hk).trans (bigSep_emp_const _)
  rw [h1 1 (by decide), h1 2 (by decide), h1 3 (by decide), bigSep_congr fun j _ => h0 j]
  iintro H
  isplitl [H]; · iexact H
  isplitl []; · iempintro
  isplitl []; · iempintro
  iempintro

/-- The tokens of one transfer. -/
def sndTok (x : Xf) : sProp 𝕄 :=
  iprop(dutyTok ER (cell c (iS x)) 0 0 ∗ dutyTok ER (cell (peer p x.1 c) (iR x)) 0 0 ∗ atPos ER (cell c (iS x)) 0 ∅ 0)

/-- Tokens, destinations and sources together. -/
theorem ready : iprop((bigSep Finset.univ fun x : Xf => sndTok (F := F) p c x) ∗ (bigSep Finset.univ fun x : Xf => oAny (F := F) (peer p x.1 c) c x.2)
    ∗ bigSep Finset.univ fun x : Xf => if x.1 = 0 then srcPt m p c x else iprop(emp)) ⊢ bigSep Finset.univ fun x => sndSt m p c x (sndPh 0 x) := by
  have hx : ∀ x : Xf, iprop(sndTok (F := F) p c x ∗ oAny (F := F) (peer p x.1 c) c x.2 ∗ (if x.1 = 0 then srcPt m p c x else iprop(emp)))
      ⊢ sndSt m p c x (sndPh 0 x) := fun x => by
    rw [snd_first]
    by_cases h : x.1 = 0
    · rw [if_pos h, if_pos h]
      simp only [sndSt, sndPre, sndTok]
      iintro ⟨⟨H1, H2, H3⟩, H4, H5⟩
      isplitl [H1 H2 H3 H4]
      · isplitl [H1]; · iexact H1
        isplitl [H2]; · iexact H2
        isplitl [H3]; · iexact H3
        iexact H4
      iexact H5
    · rw [if_neg h, if_neg h]
      simp only [sndSt, sndPre, sndTok]
      iintro ⟨⟨H1, H2, H3⟩, H4, -⟩
      isplitl [H1]; · iexact H1
      isplitl [H2]; · iexact H2
      isplitl [H3]; · iexact H3
      iexact H4
  have e := bigSep_mono (s := (Finset.univ : Finset Xf)) fun x _ => hx x
  rw [bigSep_sep', bigSep_sep'] at e
  exact e

/-- What no step before the barrier touches. -/
def held : sProp 𝕄 :=
  iprop(cred (tallyAt (cell c iB) () 5) ∗ atPos ER (cell c iB) 0 ∅ 0 ∗ (bigSep Finset.univ fun x => sndTok (F := F) p c x)
    ∗ (bigSep Finset.univ fun x => rcvSt m p c x (rcvPh 0 x)) ∗ ackOut p c 0 ∗ ackIn c 0)
/-- What no step after it touches. -/
def done : sProp 𝕄 := iprop(piPt p c ∗ locSt m c 2 ∗ semVal (cell c iB) 0)

/-- The barrier is waited for. -/
theorem step_barrier {s : Sem sig} (hs : s = barS) {a : ℤ} (ha : a = ((5 : ℕ) : ℤ))
    {α : Type} {Q : α → sProp 𝕄} {k : PUnit → Prog (TpuEff nD τ sig (Elt F) Λ₀ .tc) α}
    (h : St m p K c (done m p c) 0 ⊢ run c (k ⟨⟩) Q) :
    Bs m p K c (held m p c) ∅ 2 true ⊢ run c (.op (.semWait s a) k) Q := by
  subst hs ha
  unfold Bs held
  rw [owB_empty]
  iintro ⟨⟨Hc, Hat, Htk, Hr, Hao, Hai⟩, #Hrec, #Hlev, ⟨%W, HO⟩, -, Hpi, Hl, Hb⟩
  iapply (Rounds.wp_wait_rest_token 𝒱₀ ER (Rd m p) (c : Thread nD τ) none (κ := K (c, iB))
      (wpE_semWait_eq 𝒱₀ (c : Thread nD τ) none Set.univ) (Set.mem_univ _) () (O := ow p c 0) (W := W) (R := 0) (m := 0) (T := ∅)
      (by rw [Nat.zero_add]; exact (expect_bar m p c).symm)) $$ [Hc HO Hat]
  · isplitr; · iapply (inv_at m p K c iB); iexact Hrec
    isplitl [Hc]; · iexact Hc
    isplitl [HO]; · iexact HO
    isplitr; · iapply (mayWait_bar p c); iexact Hlev
    iexact Hat
  iintro ⟨HO, Hat, -, Hpay⟩
  imod (Rounds.cell_close ER (Rd m p) (Set.mem_univ (K (c, iB))) (fun h => h) (R := 0 + 1) (duties_later m p (cell c iB))) $$ [Hat] with Hz
  · isplitr; · iapply (inv_at m p K c iB); iexact Hrec
    iexact Hat
  ihave Hpay := (Entails.of_eq (show bigSep ((Rd (F := F) m p).duties ((c : Thread nD τ), SemLoc.reg barS) 0 \ ∅) (fun d => (Rd (F := F) m p).payload ((c : Thread nD τ), SemLoc.reg barS) 0 d) = _ from rest_bar m p c)) $$ Hpay
  ihave Hds := (bar_brings p c) $$ Hpay
  ihave Hsr := (buf_sources m p c) $$ Hb
  ihave Hs := (ready m p c) $$ [Htk Hds Hsr]
  · isplitl [Htk]; · iexact Htk
    isplitl [Hds] <;> iassumption
  iapply h
  unfold St done
  isplitl [Hpi Hl Hz]
  · isplitl [Hpi]; · iexact Hpi
    isplitl [Hl]; · iexact Hl
    iexact Hz
  isplitr; · iexact Hrec
  isplitr; · iexact Hlev
  isplitl [HO]; · iexists _; iexact HO
  isplitl [Hs]; · iexact Hs
  isplitl [Hr]; · iexact Hr
  isplitl [Hao] <;> iassumption

end Entry

end Cert.Permute

end
-- ==== Proof.Body.lean ====
/-
# The body, run

The printed body unfolded to its operations, and each taken by the lemma that states what it does.
-/
module

public import proofs.«01_k».proof.Proof.Entry
public import proofs.«01_k».proof.Proof.Gen.KernelIdeal.Skeleton
public import Idealize.ShloMosaic.Lib.Pipeline.Value

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (p : Equiv.Perm (Fin 4))

section Body
variable (K : Dev nD × Ci → ℕ) (c : Dev nD)

/-- The word read first is that of the device's own row. -/
theorem own_word : ∀ c : Dev nD, k0_off1 c 0 = (dZ c).val := by decide +kernel

omit [FloatOps F] in
theorem run_ret {α : Type} {a : α} {Q : α → sProp 𝕄} {A : sProp 𝕄} (h : A ⊢ Q a) :
    A ⊢ wp frame (wpE (defs₀ (F := F)) 𝒱₀ (c : Thread nD τ) none) Set.univ (.ret a) Q := by
  rw [wp_ret]
  iintro H
  imodintro
  iapply h; iexact H

set_option maxHeartbeats 8000000 in
/-- From the table staged, the tokens and the buffers, the body runs to the end of its ninety-eight steps. -/
theorem body_run (h1 : (Memref.whole cc0_stg0_0 : Memref sig .tc .smem S4 .i32).IsWhole) (Q : PUnit → sProp 𝕄) (h : St m p K c (done m p c) 98 ⊢ Q ⟨⟩) :
    Bs m p K c (held m p c) Finset.univ 0 false ⊢ run c (cc0_body (F := F) (Memref.whole cc0_stg0_0) h1 (Memref.whole main_arg0) (Memref.isWhole_whole _)
      (Memref.whole main_v1) (Memref.isWhole_whole _) (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 cc0_scratch10 cc0_scratch11) Q := by
  simp only [cc0_body_eq_skeleton, cc0_body_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel,
    smemLoad, smemLoadElt, semSignalWord, semWaitWord, Prog.lift, Prog.bind_op, Prog.bind_ret, Prog.pure_eq_ret, Prog.bind_assoc]
  refine step_id c ?_
  refine step_word m p K c (held m p c) Finset.univ 0 false (dZ c) (own_word c) ?_
  refine step_assume c (chk2 p c) ?_
  refine step_word m p K c (held m p c) Finset.univ 0 false 0 (by rfl) ?_
  refine step_word m p K c (held m p c) Finset.univ 0 false 1 (by rfl) ?_
  refine step_word m p K c (held m p c) Finset.univ 0 false 2 (by rfl) ?_
  refine step_word m p K c (held m p c) Finset.univ 0 false 3 (by rfl) ?_
  refine step_assume c (k0_chk1_all c _ _ _ _) ?_
  refine step_copy m p K c (held m p c) Finset.univ false (by rfl) (by rfl) ?_
  refine step_signal m p K c (held m p c) _ {1, 2, 3, 4} 1 false 0 (by decide) (by decide) (Fin.ext (src_dev p c)) (by rfl) (by rfl) ?_
  refine step_signal m p K c (held m p c) _ {1, 2, 3} 1 false 4 (by decide) (by decide) (Fin.ext (dst_dev p c)) (by rfl) (by rfl) ?_
  refine step_signal m p K c (held m p c) _ {2, 3} 1 false 1 (by decide) (by decide) (Fin.ext (plane_x c)) (by rfl) (by rfl) ?_
  refine step_signal m p K c (held m p c) _ {3} 1 false 2 (by decide) (by decide) (Fin.ext (plane_y c)) (by rfl) (by rfl) ?_
  refine step_signal m p K c (held m p c) _ ∅ 1 false 3 (by decide) (by decide) (Fin.ext (plane_d c)) (by rfl) (by rfl) ?_
  refine step_copied m p K c (held m p c) ∅ false (by rfl) ?_
  refine step_read m p K c (held m p c) ∅ false ?_
  refine step_old m p K c (held m p c) ∅ 2 fun _ => ?_
  refine step_store m p K c (held m p c) ∅ 2 (shapeCast_self _ _) ?_
  refine step_barrier m p K c (by rfl) (by rfl) ?_
  iterate 8 refine step_column m p K c (done m p c) _ (by rfl) (by rfl) (by rfl) rfl (by rfl) (by rfl) (Fin.ext (dst_dev p c)) (by rfl) (by rfl) ?_
  iterate 8
    refine step_land_column m p K c (done m p c) _ (by rfl) (by rfl) rfl (by rfl) (by rfl) ?_
    refine step_plane m p K c (done m p c) (1, _) (by rfl) (by decide) (by rfl) rfl (by rfl) (by rfl) (Fin.ext (plane_x c)) (by rfl) (by rfl) ?_
    refine step_plane m p K c (done m p c) (2, _) (by rfl) (by decide) (by rfl) rfl (by rfl) (by rfl) (Fin.ext (plane_y c)) (by rfl) (by rfl) ?_
    refine step_plane m p K c (done m p c) (3, _) (by rfl) (by decide) (by rfl) rfl (by rfl) (by rfl) (Fin.ext (plane_d c)) (by rfl) (by rfl) ?_
  refine step_ack m p K c (done m p c) (Fin.ext (src_dev p c)) rfl rfl ?_
  iterate 24 refine step_land_plane m p K c (done m p c) _ _ (by rfl) (by decide) (by rfl) rfl (by rfl) (by rfl) ?_
  iterate 8 refine step_left_column m p K c (done m p c) _ (by rfl) (by rfl) rfl (by rfl) (by rfl) ?_
  iterate 24 refine step_left_plane m p K c (done m p c) _ (by rfl) (by rfl) rfl (by rfl) (by rfl) ?_
  refine step_end m p K c (done m p c) rfl rfl ?_
  exact run_ret c h

end Body

end Cert.Permute

end
-- ==== Proof.Ends.lean ====
/-
# What the body starts from and what it ends with, in whole buffers

At launch a device holds its result whole, and its tokens by semaphore; the body takes them by signal and by transfer. At
the end every chunk of the result is back, each at the contents it should have, and they join to the result whole.
-/
module

public import proofs.«01_k».proof.Proof.Body
public import proofs.«01_k».proof.Proof.Gen.KernelIdeal.Skeleton
public import Idealize.ShloMosaic.Lib.Pipeline.Value

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (p : Equiv.Perm (Fin 4))

section Ends
variable (c : Dev nD)

/-- The kernel's own semaphores: all but the barrier. -/
abbrev Oi : Type := (Xf ⊕ Xf) ⊕ Fin 2
def oi : Oi → Ci
  | .inl s => .inl s
  | .inr 0 => iL
  | .inr 1 => iA
abbrev osem (i : Oi) : SemLoc sig := csem (oi i)

omit [FloatOps F] in
theorem fam_sum {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ
omit [FloatOps F] in
theorem fam2 (Φ : Fin 2 → sProp 𝕄) : bigSep Finset.univ Φ = iprop(Φ 0 ∗ Φ 1) := bigSep_univ_eq_bigSepL [0, 1] (by decide) (by decide) Φ
omit [FloatOps F] in
theorem fam3 (Φ : Fin 3 → sProp 𝕄) : bigSep Finset.univ Φ = iprop(Φ 0 ∗ Φ 1 ∗ Φ 2) := bigSep_univ_eq_bigSepL [0, 1, 2] (by decide) (by decide) Φ
omit [FloatOps F] in
theorem fam_sep {I : Type} [Fintype I] (Φ Ψ : I → sProp 𝕄) :
    (bigSep Finset.univ fun i => iprop(Φ i ∗ Ψ i)) = iprop(bigSep Finset.univ Φ ∗ bigSep Finset.univ Ψ) := BI.bigSep_sep' _ _ _

omit [FloatOps F] in
/-- Every semaphore of a device, family by family. -/
theorem fam_cells (Φ : Ci → sProp 𝕄) : bigSep Finset.univ Φ
    = iprop(((bigSep Finset.univ fun x => Φ (iS x)) ∗ bigSep Finset.univ fun x => Φ (iR x)) ∗ Φ iL ∗ Φ iA ∗ Φ iB) := by
  rw [fam_sum, fam_sum, fam3]
omit [FloatOps F] in
theorem fam_own (Φ : Oi → sProp 𝕄) : bigSep Finset.univ Φ
    = iprop(((bigSep Finset.univ fun x => Φ (.inl (.inl x))) ∗ bigSep Finset.univ fun x => Φ (.inl (.inr x))) ∗ Φ (.inr 0) ∗ Φ (.inr 1)) := by
  rw [fam_sum, fam_sum, fam2]

/-! ## The result in pieces -/

/-- The result, whole. -/
def outPt (f : (main_v1 : Ref sig .tc).ty.Contents (Elt F)) : sProp 𝕄 := ((c : Thread nD τ).loc main_v1) ↦{fullShare} f

omit [FloatOps F] in
theorem out_blocks (f : (main_v1 : Ref sig .tc).ty.Contents (Elt F)) :
    outPt c f = bigSep Finset.univ fun x : Xf => oPt (F := F) c ((peer p x.1).symm c) x.2 fullShare f :=
  Ring.pointsTo_blocks (ℓ := (c : Thread nD τ).loc main_v1) (landing p c) (fun x y h => landing_disjoint p c x y h) (landing_cover p c) f

omit [FloatOps F] in
/-- A signal gives its receiver the chunks that receiver will write. -/
theorem gives_chunks (k : Fin 4) (d : Du) (hd : d.val = k.val) (f : (main_v1 : Ref sig .tc).ty.Contents (Elt F)) :
    (bigSep Finset.univ fun j : Fin 8 => oPt (F := F) c ((peer p k).symm c) j fullShare f) ⊢ barPay (F := F) p (barTo p d c) d := by
  have hk : (⟨d.val, by have := k.isLt; omega⟩ : Fin 4) = k := Fin.ext hd
  have hb : barTo p d c = (peer p k).symm c := by
    unfold barTo; rw [dif_pos (by have := k.isLt; omega), hk]
  have hp : barPay (F := F) p (barTo p d c) d = bigSep Finset.univ fun j : Fin 8 => oAny (F := F) (peer p k (barTo p d c)) (barTo p d c) j := by
    unfold barPay; rw [dif_pos (by have := k.isLt; omega), hk]
  rw [hp, hb, Equiv.apply_symm_apply]
  refine bigSep_mono fun j _ => ?_
  show oPt (F := F) c ((peer p k).symm c) j fullShare f ⊢ oAny c ((peer p k).symm c) j
  unfold oAny
  iintro H
  iexists f; iexact H

omit [FloatOps F] in
/-- The result's chunks are what the five signals bring. -/
theorem out_gives (f : (main_v1 : Ref sig .tc).ty.Contents (Elt F)) :
    outPt c f ⊢ bigSep Finset.univ fun d : Du => barPay (F := F) p (barTo p d c) d := by
  have h4 : barPay (F := F) p (barTo p 4 c) 4 = iprop(emp) := dif_neg (by decide)
  rw [out_blocks p, fam_prod, fam4, fam5, h4]
  iintro ⟨H0, H1, H2, H3⟩
  isplitl [H0]; · iapply (gives_chunks p c 0 0 rfl f); iexact H0
  isplitl [H1]; · iapply (gives_chunks p c 1 1 rfl f); iexact H1
  isplitl [H2]; · iapply (gives_chunks p c 2 2 rfl f); iexact H2
  isplitl [H3]; · iapply (gives_chunks p c 3 3 rfl f); iexact H3
  iempintro

omit [FloatOps F] in
/-- The three shares the plane transfers read, back together. -/
theorem thirds_land (j : Fin 8) : iprop(srcPt m p c (1, j) ∗ srcPt m p c (2, j) ∗ srcPt m p c (3, j)) ⊢ landPt m p c (0, j) := by
  unfold landPt srcPt oPt
  rw [if_neg (by show (1 : Fin 4) ≠ 0; decide), if_neg (by show (2 : Fin 4) ≠ 0; decide), if_neg (by show (3 : Fin 4) ≠ 0; decide), cset_column p c j]
  exact (sep_mono_right (pointsTo_share (PosShare.mem_left_op_right (PosShare.right fullShare))).2).trans
    (pointsTo_share (PosShare.mem_left_op_right fullShare)).2

/-- What the transfers leave, both sides: the result whole, and the send buffer. -/
theorem all_back : iprop((bigSep Finset.univ fun x => srcPt m p c x) ∗ bigSep Finset.univ fun x => kept m p c x) ⊢ iprop(outPt c (outF m p c) ∗ bufSt m c true) := by
  have hb : bufSt m c true = bigSep Finset.univ fun j : Fin 8 => srcPt m p c (0, j) :=
    (Ring.pointsTo_blocks (ℓ := (c : Thread nD τ).loc cc0_scratch1) sset (fun j j' h => sC_disjoint j j' h) sC_cover (sendF m c)).trans
      (bigSep_congr fun j _ => (if_pos rfl : srcPt m p c (0, j) = sPt m c j).symm)
  have hk : ∀ (k : Fin 4), k ≠ 0 → (bigSep Finset.univ fun j : Fin 8 => kept m p c (k, j)) = bigSep Finset.univ fun j : Fin 8 => landPt m p c (k, j) :=
    fun k h => bigSep_congr fun j _ => if_neg h
  have ho : outPt c (outF m p c) = bigSep Finset.univ fun x : Xf => landPt m p c x := out_blocks p c (outF m p c)
  have ht : iprop((bigSep Finset.univ fun j : Fin 8 => srcPt m p c (1, j)) ∗ (bigSep Finset.univ fun j : Fin 8 => srcPt m p c (2, j))
      ∗ bigSep Finset.univ fun j : Fin 8 => srcPt m p c (3, j)) ⊢ bigSep Finset.univ fun j : Fin 8 => landPt m p c (0, j) := by
    rw [← fam_sep, ← fam_sep]
    exact bigSep_mono fun j _ => thirds_land m p c j
  rw [hb, ho, fam_prod, fam4, fam_prod, fam4, fam_prod, fam4, hk 1 (by decide), hk 2 (by decide), hk 3 (by decide)]
  iintro ⟨⟨H0, H1, H2, H3⟩, -, K1, K2, K3⟩
  ihave K0 := ht $$ [H1 H2 H3]
  · isplitl [H1]; · iexact H1
    isplitl [H2] <;> iassumption
  isplitr [H0]
  · isplitl [K0]; · iexact K0
    isplitl [K1]; · iexact K1
    isplitl [K2]; · iexact K2
    iexact K3
  iexact H0

/-! ## The ends -/

/-- The tokens of what the device does. -/
def payToks : sProp 𝕄 :=
  iprop((bigSep Finset.univ fun d : Du => dutyTok ER (cell (barTo p d c) iB) 0 d) ∗ (bigSep Finset.univ fun x : Xf => dutyTok ER (cell c (iS x)) 0 0)
    ∗ (bigSep Finset.univ fun x : Xf => dutyTok ER (cell (peer p x.1 c) (iR x)) 0 0) ∗ dutyTok ER (cell c iL) 0 0 ∗ dutyTok ER (cell ((peer p 0).symm c) iA) 0 0)
/-- Its semaphores, unspent, and those tokens. -/
def lin : sProp 𝕄 := iprop((bigSep Finset.univ fun i : Ci => atPos ER (cell c i) 0 ∅ 0) ∗ payToks (F := F) p c)
/-- The credit it waits by. -/
def creds : sProp 𝕄 :=
  iprop(cred (tallyAt (cell c iB) () 5) ∗ (bigSep Finset.univ fun x : Xf => cred (tallyAt (cell c (iR x)) () NC)) ∗ cred (tallyAt (cell c iA) () 1))

/-- The launch's tokens, credit and buffers, as the body takes them. -/
theorem enter (K : Dev nD × Ci → ℕ) (W : Waits sig Unit) (f : (main_v1 : Ref sig .tc).ty.Contents (Elt F)) :
    iprop((records m p K ∗ lin (F := F) p c) ∗ creds (F := F) c ∗ levAts L lv ∗ xPt m c ∗ outPt c f ∗ owes (c : Thread nD τ) (owB p c Finset.univ) W ∗ piPt (F := F) p c
        ∗ (∃ f : (cc0_scratch0 : Ref sig .tc).ty.Contents (Elt F), ((c : Thread nD τ).loc cc0_scratch0) ↦{fullShare} f)
        ∗ (∃ f : (cc0_scratch1 : Ref sig .tc).ty.Contents (Elt F), ((c : Thread nD τ).loc cc0_scratch1) ↦{fullShare} f))
      ⊢ Bs m p K c (held m p c) Finset.univ 0 false := by
  have ha : ackOut (F := F) p c 0 = dutyTok ER (cell ((peer p 0).symm c) iA) 0 0 := if_neg (by decide)
  have hi : ackIn (F := F) c 0 = iprop(cred (tallyAt (cell c iA) () 1) ∗ atPos ER (cell c iA) 0 ∅ 0) := if_neg (by decide)
  have hr : (bigSep Finset.univ fun x => rcvSt m p c x (rcvPh 0 x))
      = iprop((bigSep Finset.univ fun x : Xf => cred (tallyAt (cell c (iR x)) () NC)) ∗ bigSep Finset.univ fun x : Xf => atPos ER (cell c (iR x)) 0 ∅ 0) := by
    rw [← fam_sep]
    exact bigSep_congr fun x _ => by rw [rcv_first]; rfl
  have hs : (bigSep Finset.univ fun x => sndTok (F := F) p c x)
      = iprop((bigSep Finset.univ fun x : Xf => dutyTok ER (cell c (iS x)) 0 0) ∗ (bigSep Finset.univ fun x : Xf => dutyTok ER (cell (peer p x.1 c) (iR x)) 0 0)
        ∗ bigSep Finset.univ fun x : Xf => atPos ER (cell c (iS x)) 0 ∅ 0) := by
    rw [← fam_sep, ← fam_sep]; rfl
  unfold Bs held lin payToks creds sigs
  rw [fam_cells, ha, hi, hr, hs, fam_sep]
  simp only [locSt, bufSt]
  iintro ⟨⟨Hrec, ⟨⟨AS, AR⟩, AL, AA, AB⟩, TB, TS, TR, TL, TA⟩, ⟨CB, CR, CA⟩, Hlev, Hx, Ho, HO, Hpi, Hs0, Hs1⟩
  ihave Hg := (out_gives p c f) $$ Ho
  isplitl [CB AB TS TR AS CR AR TA CA AA]
  · isplitl [CB]; · iexact CB
    isplitl [AB]; · iexact AB
    isplitl [TS TR AS]
    · isplitl [TS]; · iexact TS
      isplitl [TR]; · iexact TR
      iexact AS
    isplitl [CR AR]
    · isplitl [CR]; · iexact CR
      iexact AR
    isplitl [TA]; · iexact TA
    isplitl [CA]; · iexact CA
    iexact AA
  isplitl [Hrec]; · iexact Hrec
  isplitl [Hlev]; · iexact Hlev
  isplitl [HO]; · iexists W; iexact HO
  isplitl [TB Hg]
  · isplitl [TB]; · iexact TB
    iexact Hg
  isplitl [Hpi]; · iexact Hpi
  isplitl [TL AL Hx Hs0]
  · isplitl [TL]; · iexact TL
    isplitl [AL]; · iexact AL
    isplitl [Hx]; · iexact Hx
    iexact Hs0
  iexact Hs1

/-- What a device ends with. -/
def fin : sProp 𝕄 :=
  iprop(xPt m c ∗ outPt c (outF m p c) ∗ (∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f)
    ∗ semVal (cell c iB) 0 ∗ bigSep Finset.univ fun i : Oi => semVal ((c : Thread nD τ), osem i) 0)

/-- The last state is that. -/
theorem leave (K : Dev nD × Ci → ℕ) : St m p K c (done m p c) 98 ⊢ iprop(piPt (F := F) p c ∗ fin m p c ∗ ∃ W, owes (c : Thread nD τ) 0 W) := by
  have hs : (bigSep Finset.univ fun x => sndSt m p c x (sndPh 98 x)) = iprop((bigSep Finset.univ fun x : Xf => semVal (cell c (iS x)) 0) ∗ bigSep Finset.univ fun x => srcPt m p c x) := by
    rw [← fam_sep]; exact bigSep_congr fun x _ => by rw [snd_last]; rfl
  have hr : (bigSep Finset.univ fun x => rcvSt m p c x (rcvPh 98 x)) = iprop((bigSep Finset.univ fun x : Xf => semVal (cell c (iR x)) 0) ∗ bigSep Finset.univ fun x => kept m p c x) := by
    rw [← fam_sep]; exact bigSep_congr fun x _ => by rw [rcv_last]; rfl
  have hi : ackIn (F := F) c 98 = semVal (cell c iA) 0 := if_pos (by decide)
  unfold St done fin
  rw [hs, hr, hi, fam_own, ow_zero p c 98 (by decide)]
  simp only [locSt]
  iintro ⟨⟨Hpi, ⟨Hz, Hq, Hx⟩, HzB⟩, -, -, HO, ⟨HzS, Hs⟩, ⟨HzR, Hk⟩, -, HzA⟩
  ihave Hb := (all_back m p c) $$ [Hs Hk]
  · isplitl [Hs] <;> iassumption
  icases Hb with ⟨Ho, Hb⟩
  isplitl [Hpi]; · iexact Hpi
  isplitr [HO]
  · isplitl [Hx]; · iexact Hx
    isplitl [Ho]; · iexact Ho
    isplitl [Hq]; · iexists (sendF m c); unfold qPt; iexact Hq
    isplitl [Hb]; · iexists (sendF m c); simp only [bufSt]; iexact Hb
    isplitl [HzB]; · iexact HzB
    isplitl [HzS HzR]
    · isplitl [HzS]; · iexact HzS
      iexact HzR
    isplitl [Hz]; · iexact Hz
    iexact HzA
  iexact HO

end Ends

end Cert.Permute

end
-- ==== Proof.Deal.lean ====
/-
# What the launch deals each device

The launch mints, for every semaphore of every device, the tokens of its duties. Each token goes to the device that pays
the duty: a barrier's to its five senders, a receive semaphore's to the sender of the chunk, the acknowledgement's to the
device that reads it; send and local semaphores keep theirs. The credit a device starts from is what the others owe its
semaphores.
-/
module

public import proofs.«01_k».proof.Proof.Ends
public import proofs.«01_k».proof.Proof.Gen.KernelIdeal.Skeleton
public import Idealize.ShloMosaic.Lib.Pipeline.Value

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (p : Equiv.Perm (Fin 4))

section Deal

abbrev kcell (e : Dev nD × Ci) : GSem nD τ sig := cell e.1 e.2
theorem kcell_inj : Function.Injective kcell := by
  rintro ⟨c, i⟩ ⟨c', i'⟩ h
  have h1 : c = c' := congrArg (fun g : GSem nD τ sig => g.1.1) h
  have h2 : i = i' := csem_inj (congrArg (fun g : GSem nD τ sig => g.2) h)
  rw [h1, h2]
def ringCells : Finset (GSem nD τ sig) := Finset.univ.map ⟨kcell, kcell_inj⟩

/-- A device's duties as minted: one for each of its own semaphores, five for its barrier. -/
abbrev Ti : Type := Oi ⊕ Du
theorem oi_inj : Function.Injective oi := by decide +kernel
theorem oi_ne (i : Oi) : oi i ≠ iB := by revert i; decide +kernel
def tokOf (e : Dev nD × Ti) : GSem nD τ sig × ℕ × Du := match e.2 with
  | .inl i => (cell e.1 (oi i), 0, 0)
  | .inr d => (cell e.1 iB, 0, d)
theorem tokOf_inj : Function.Injective tokOf := by
  rintro ⟨c, i | d⟩ ⟨c', i' | d'⟩ h
  · have h' := kcell_inj (a₁ := (c, oi i)) (a₂ := (c', oi i')) (congrArg Prod.fst h)
    rw [(Prod.mk.inj h').1, oi_inj (Prod.mk.inj h').2]
  · exact absurd (Prod.mk.inj (kcell_inj (a₁ := (c, oi i)) (a₂ := (c', iB)) (congrArg Prod.fst h))).2 (oi_ne i)
  · exact absurd (Prod.mk.inj (kcell_inj (a₁ := (c, iB)) (a₂ := (c', oi i')) (congrArg Prod.fst h))).2.symm (oi_ne i')
  · have h' := kcell_inj (a₁ := (c, iB)) (a₂ := (c', iB)) (congrArg Prod.fst h)
    have hd : d = d' := congrArg (fun x : GSem nD τ sig × ℕ × Du => x.2.2) h
    rw [(Prod.mk.inj h').1, hd]
def ringToks : Finset (GSem nD τ sig × ℕ × Du) := Finset.univ.map ⟨tokOf, tokOf_inj⟩

/-- The launch's ghost element: the staging's, and the schedule's. -/
def u₀ : UU := (initOf (Pipeline.cells cfgs cellOf_inj) (Pipeline.launchToks cfgs cellOf_inj), initOf ringCells ringToks)

/-- The tokens of device `c`'s own semaphores. -/
def toks (c : Dev nD) : sProp 𝕄 :=
  iprop((bigSep Finset.univ fun i : Oi => dutyTok ER (cell c (oi i)) 0 0) ∗ bigSep Finset.univ fun d : Du => dutyTok ER (cell c iB) 0 d)

/-- What the launch deals device `c`. -/
def G (c : Dev nD) : sProp 𝕄 :=
  iprop((bigSep Finset.univ fun i : Ci => roundState ER (Rd m p) (cell c i) 0)
    ∗ ((bigSep Finset.univ fun i : Ci => atPos ER (cell c i) 0 ∅ 0) ∗ bigSep Finset.univ fun i : Ci => reached ER (cell c i) 0) ∗ toks (F := F) c)
/-- What the launch's one step over all devices makes of it. -/
def G' (c : Dev nD) : sProp 𝕄 := iprop(∃ K, records m p K ∗ lin (F := F) p c)

omit [FloatOps F] in
theorem fund_ring : BI.own (ER (initOf ringCells ringToks)) ⊢ (|==> bigSep Finset.univ (G m p) : sProp 𝕄) := by
  have hX (Φ : GSem nD τ sig → sProp 𝕄) : bigSep ringCells Φ = bigSep Finset.univ fun c : Dev nD => bigSep Finset.univ fun i : Ci => Φ (cell c i) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [fam_sum]; rfl
  iintro HX
  imod (Rounds.fund ER (Rd m p) ringCells ringToks) $$ HX with ⟨Hst, Hr, Hat, Htok⟩
  imodintro
  ihave Hst' := (Entails.of_eq (hX fun g => roundState ER (Rd m p) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier is the one semaphore that outlives the kernel. -/
theorem unscopedSems0_eq (c : Dev nD) : (unscopedSems0 c : sProp 𝕄) = semVal (cell c iB) 0 := by
  unfold unscopedSems0; rw [bigSep_eq_bigSepL_of_eq [SemLoc.reg barS] (by decide +kernel) (by decide +kernel)]; rfl

omit [FloatOps F] in
theorem sems_all (c : Dev nD) :
    iprop(Pipeline.ownSems0 (Ix := Unit) (Name := ℕ) (U := UU) (Lvl := ℕ) (Val := Elt F) (τ := τ) osem c ∗ unscopedSems0 c)
      ⊢ (bigSep Finset.univ fun i : Ci => semVal (cell c i) 0 : sProp 𝕄) := by
  unfold Pipeline.ownSems0
  rw [unscopedSems0_eq, fam_own, fam_cells]
  iintro ⟨⟨⟨HS, HR⟩, HL, HA⟩, HB⟩
  isplitl [HS HR]
  · isplitl [HS]; · iexact HS
    iexact HR
  isplitl [HL]; · iexact HL
  isplitl [HA]; · iexact HA
  iexact HB

omit [FloatOps F] in
theorem inv_make (c : Dev nD) :
    iprop((bigSep Finset.univ fun i : Ci => semVal (cell c i) 0) ∗ bigSep Finset.univ fun i : Ci => roundState ER (Rd m p) (cell c i) 0)
      ⊢ (|={Set.univ}=> bigSep Finset.univ fun i : Ci => iprop(∃ κ : ℕ, cellInv ER (Rd m p) κ (cell c i)) : sProp 𝕄) := by
  rw [← fam_sep]
  exact (bigSep_mono fun i _ => (Rounds.body_intro ER (Rd m p) (cell c i)).trans inv_alloc).trans (bigSep_fupd _ _)

omit [FloatOps F] in
theorem core_alloc (c : Dev nD) :
    iprop(Pipeline.ownSems0 (Ix := Unit) (Name := ℕ) (U := UU) (Lvl := ℕ) (Val := Elt F) (τ := τ) osem c ∗ unscopedSems0 c ∗ G m p c)
      ⊢ |={Set.univ}=> iprop((bigSep Finset.univ fun i : Ci => iprop(∃ κ : ℕ, cellInv ER (Rd m p) κ (cell c i)))
          ∗ ((bigSep Finset.univ fun i : Ci => atPos ER (cell c i) 0 ∅ 0) ∗ bigSep Finset.univ fun i : Ci => reached ER (cell c i) 0) ∗ toks (F := F) c) := by
  unfold G
  iintro ⟨Hos, Hus, Hst, Hat, Htok⟩
  ihave Hv := (sems_all (F := F) c) $$ [Hos Hus]
  · isplitl [Hos] <;> iassumption
  imod (inv_make m p c) $$ [Hv Hst] with Hinv
  · isplitl [Hv] <;> iassumption
  imodintro
  isplitl [Hinv]; · iexact Hinv
  isplitl [Hat]; · iexact Hat
  iexact Htok

omit [FloatOps F] in
/-- Every token to the device that pays its duty. -/
theorem toks_around : (bigSep Finset.univ fun c : Dev nD => (toks c : sProp 𝕄)) ⊢ bigSep Finset.univ fun c : Dev nD => payToks (F := F) p c := by
  have hB : (bigSep Finset.univ fun c : Dev nD => bigSep Finset.univ fun d : Du => (dutyTok ER (cell c iB) 0 d : sProp 𝕄))
      = bigSep Finset.univ fun c : Dev nD => bigSep Finset.univ fun d : Du => dutyTok ER (cell (barTo p d c) iB) 0 d := by
    rw [bigSep_univ_comm, bigSep_univ_comm (fun c d => (dutyTok ER (cell (barTo p d c) iB) 0 d : sProp 𝕄))]
    exact bigSep_congr fun d _ => bigSep_univ_equiv (barTo p d) (fun c : Dev nD => (dutyTok ER (cell c iB) 0 d : sProp 𝕄))
  have hR : (bigSep Finset.univ fun c : Dev nD => bigSep Finset.univ fun x : Xf => (dutyTok ER (cell c (iR x)) 0 0 : sProp 𝕄))
      = bigSep Finset.univ fun c : Dev nD => bigSep Finset.univ fun x : Xf => dutyTok ER (cell (peer p x.1 c) (iR x)) 0 0 := by
    rw [bigSep_univ_comm, bigSep_univ_comm (fun c (x : Xf) => (dutyTok ER (cell (peer p x.1 c) (iR x)) 0 0 : sProp 𝕄))]
    exact bigSep_congr fun x _ => bigSep_univ_equiv (peer p x.1) (fun c : Dev nD => (dutyTok ER (cell c (iR x)) 0 0 : sProp 𝕄))
  have hA : (bigSep Finset.univ fun c : Dev nD => (dutyTok ER (cell c iA) 0 0 : sProp 𝕄))
      = bigSep Finset.univ fun c : Dev nD => dutyTok ER (cell ((peer p 0).symm c) iA) 0 0 :=
    bigSep_univ_equiv (peer p 0).symm (fun c : Dev nD => (dutyTok ER (cell c iA) 0 0 : sProp 𝕄))
  have h0 : ∀ c : Dev nD, (toks c : sProp 𝕄) = iprop((((bigSep Finset.univ fun x : Xf => dutyTok ER (cell c (iS x)) 0 0) ∗ bigSep Finset.univ fun x : Xf => dutyTok ER (cell c (iR x)) 0 0)
      ∗ dutyTok ER (cell c iL) 0 0 ∗ dutyTok ER (cell c iA) 0 0) ∗ bigSep Finset.univ fun d : Du => dutyTok ER (cell c iB) 0 d) := fun c => by
    unfold toks; rw [fam_own]; rfl
  rw [bigSep_congr fun c _ => h0 c]
  unfold payToks
  simp only [fam_sep]
  rw [hB, hR, hA]
  iintro ⟨⟨⟨HS, HR⟩, HL, HA⟩, HB⟩
  isplitl [HB]; · iexact HB
  isplitl [HS]; · iexact HS
  isplitl [HR]; · iexact HR
  isplitl [HL]; · iexact HL
  iexact HA

omit [FloatOps F] in
/-- What is known to all goes with each member of a family. -/
theorem fam_with {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← fam_sep]; exact bigSep_mono fun i _ => h i)

omit [FloatOps F] in
theorem names (Φ : Dev nD × Ci → ℕ → sProp 𝕄) :
    (bigSep Finset.univ fun c : Dev nD => bigSep Finset.univ fun i : Ci => iprop(∃ κ : ℕ, Φ (c, i) κ)) ⊢ iprop(∃ K : Dev nD × Ci → ℕ, bigSep Finset.univ fun e : Dev nD × Ci => Φ e (K e)) := by
  rw [← bigSep_univ_prod (fun e : Dev nD × Ci => iprop(∃ κ : ℕ, Φ e κ))]
  exact BI.bigSep_exists_pi Finset.univ Φ

omit [FloatOps F] in
theorem regroup :
    (bigSep Finset.univ fun c : Dev nD => iprop((bigSep Finset.univ fun i : Ci => iprop(∃ κ : ℕ, cellInv ER (Rd m p) κ (cell c i)))
          ∗ ((bigSep Finset.univ fun i : Ci => atPos ER (cell c i) 0 ∅ 0) ∗ bigSep Finset.univ fun i : Ci => reached ER (cell c i) 0) ∗ toks (F := F) c) : sProp 𝕄)
      ⊢ bigSep Finset.univ (G' m p) := by
  rw [fam_sep, fam_sep, fam_sep, ← bigSep_univ_prod (fun e : Dev nD × Ci => (reached ER (cell e.1 e.2) 0 : sProp 𝕄))]
  iintro ⟨HI, ⟨Hat, #HR⟩, Htok⟩
  ihave HK := (names fun (e : Dev nD × Ci) (κ : ℕ) => (cellInv ER (Rd m p) κ (cell e.1 e.2) : sProp 𝕄)) $$ HI
  icases HK with ⟨%K, #HI⟩
  ihave Htk := (toks_around (F := F) p) $$ Htok
  iapply (fam_with (R := records m p K) (Φ := fun c => lin (F := F) p c) fun c => show _ ⊢ G' m p c from by
    unfold G'
    iintro H
    iexists K; iexact H)
  isplitr
  · unfold records; isplitl; · iexact HI
    iexact HR
  · unfold lin; rw [fam_sep]
    isplitl [Hat]; · iexact Hat
    iexact Htk

omit [FloatOps F] in
/-- The launch's one step over all devices: every semaphore's invariant made, every token handed over. -/
theorem glob : (bigSep Finset.univ fun c => iprop(Pipeline.ownSems0 (Ix := Unit) (Name := ℕ) (U := UU) (Lvl := ℕ) (Val := Elt F) (τ := τ) osem c ∗ unscopedSems0 c ∗ G m p c) : sProp 𝕄)
    ⊢ |={Set.univ}=> bigSep Finset.univ (G' m p) :=
  ((bigSep_mono fun c _ => core_alloc m p c).trans (bigSep_fupd _ _)).trans (BI.fupd_mono (regroup m p))

/-! ## The credit -/

/-- What the other devices owe a device's semaphore `i`. -/
def due (i : Ci) : ℕ := match i with
  | .inl (.inl _) => 0
  | .inl (.inr _) => NC
  | .inr 0 => 0
  | .inr 1 => 1
  | .inr 2 => 5

/-- Owed to `π d`'s semaphore `j` by every `d`: each device's semaphore `j` is owed it once. -/
theorem due_perm (π : Equiv.Perm (Dev nD)) (j : Ci) (n : ℕ) (c : Dev nD) (i : Ci) :
    (∑ d : Dev nD, (tallyAt (cell (π d) j) () n : CellTallies nD τ sig Unit) (cell c i) ()) = if j = i then n else 0 := by
  by_cases hj : j = i
  · subst hj
    rw [if_pos rfl, Finset.sum_eq_single (π.symm c)]
    · rw [tallyAt_apply, Equiv.apply_symm_apply, if_pos ⟨rfl, rfl⟩]
    · intro d _ hd
      rw [tallyAt_apply, if_neg]
      rintro ⟨h, -⟩
      exact hd (by rw [(Prod.mk.inj (kcell_inj (a₁ := (c, j)) (a₂ := (π d, j)) h)).1, Equiv.symm_apply_apply])
    · intro h; exact absurd (Finset.mem_univ _) h
  · rw [if_neg hj]
    refine Finset.sum_eq_zero fun d _ => ?_
    rw [tallyAt_apply, if_neg]
    rintro ⟨h, -⟩
    exact hj (Prod.mk.inj (kcell_inj (a₁ := (c, i)) (a₂ := (π d, j)) h)).2.symm

/-- What a device owes at launch, as one sum. -/
theorem ow_first (d : Dev nD) : owB p d Finset.univ
    = ((∑ x : Xf, tallyAt (cell (peer p x.1 d) (iR x)) () NC) + tallyAt (cell ((peer p 0).symm d) iA) () 1)
      + ∑ e : Du, tallyAt (cell (barTo p e d) iB) () 1 := by
  unfold owB ow
  rw [if_neg (Nat.not_lt_zero _), Finset.sum_congr rfl fun x _ => if_neg (Nat.not_lt_zero _)]

theorem owed_at (c : Dev nD) (i : Ci) : (∑ d : Dev nD, owB p d Finset.univ (cell c i) ()) = due i := by
  have h (d : Dev nD) : owB p d Finset.univ (cell c i) ()
      = ((∑ x : Xf, (tallyAt (cell (peer p x.1 d) (iR x)) () NC : CellTallies nD τ sig Unit) (cell c i) ())
          + (tallyAt (cell ((peer p 0).symm d) iA) () 1 : CellTallies nD τ sig Unit) (cell c i) ())
        + ∑ e : Du, (tallyAt (cell (barTo p e d) iB) () 1 : CellTallies nD τ sig Unit) (cell c i) () := by
    rw [ow_first]
    simp only [Pi.add_apply, Finsupp.add_apply, Finset.sum_apply, Finsupp.finset_sum_apply]
  have h1 : (∑ d : Dev nD, ∑ x : Xf, (tallyAt (cell (peer p x.1 d) (iR x)) () NC : CellTallies nD τ sig Unit) (cell c i) ()) = ∑ x : Xf, if iR x = i then NC else 0 := by
    rw [Finset.sum_comm]
    exact Finset.sum_congr rfl fun x _ => due_perm (peer p x.1) (iR x) NC c i
  have h2 : (∑ d : Dev nD, (tallyAt (cell ((peer p 0).symm d) iA) () 1 : CellTallies nD τ sig Unit) (cell c i) ()) = if iA = i then 1 else 0 :=
    due_perm (peer p 0).symm iA 1 c i
  have h3 : (∑ d : Dev nD, ∑ e : Du, (tallyAt (cell (barTo p e d) iB) () 1 : CellTallies nD τ sig Unit) (cell c i) ()) = ∑ e : Du, if iB = i then 1 else 0 := by
    rw [Finset.sum_comm]
    exact Finset.sum_congr rfl fun e _ => due_perm (barTo p e) iB 1 c i
  rw [Finset.sum_congr rfl fun d _ => h d, Finset.sum_add_distrib, Finset.sum_add_distrib, h1, h2, h3]
  rcases i with (x | x) | i
  · have e1 : ∀ y : Xf, iR y ≠ Sum.inl (Sum.inl x) := fun y h => Sum.inr_ne_inl (Sum.inl.inj h)
    have e2 : ∀ k : Fin 3, (Sum.inr k : Ci) ≠ Sum.inl (Sum.inl x) := fun k => Sum.inr_ne_inl
    rw [Finset.sum_eq_zero fun y _ => if_neg (e1 y), if_neg (e2 1), Finset.sum_eq_zero fun e _ => if_neg (e2 2)]
    rfl
  · have e1 : ∀ y : Xf, iR y = Sum.inl (Sum.inr x) → y = x := fun y h => Sum.inr.inj (Sum.inl.inj h)
    have e2 : ∀ k : Fin 3, (Sum.inr k : Ci) ≠ Sum.inl (Sum.inr x) := fun k => Sum.inr_ne_inl
    rw [Finset.sum_eq_single x (fun y _ h => if_neg fun h' => h (e1 y h')) (fun h => absurd (Finset.mem_univ _) h), if_pos rfl, if_neg (e2 1),
      Finset.sum_eq_zero fun e _ => if_neg (e2 2)]
    rfl
  · have e1 : ∀ y : Xf, iR y ≠ Sum.inr i := fun y => Sum.inl_ne_inr
    have e2 : ∀ k : Fin 3, ((Sum.inr k : Ci) = Sum.inr i) ↔ k = i := fun k => ⟨Sum.inr.inj, congrArg _⟩
    rw [Finset.sum_eq_zero fun y _ => if_neg (e1 y)]
    simp only [e2]
    clear * -
    revert i; decide

omit [FloatOps F] in
theorem credit_at (c : Dev nD) (i : Ci) :
    (cred (tallyOn ((c : Thread nD τ), csem i) (launchCredit (Pipeline.owing fun d => owB p d Finset.univ) 0 ((c : Thread nD τ), csem i))) : sProp 𝕄)
      = cred (tallyAt (cell c i) () (due i)) := by
  refine congrArg _ ?_
  show _ = tallyOn (cell c i) (Finsupp.single () (due i))
  refine congrArg _ (Finsupp.ext fun u => ?_)
  cases u
  rw [Pipeline.launchCredit_owing, Finsupp.single_eq_same]
  exact owed_at p c i

omit [FloatOps F] in
/-- The credit a device starts from. -/
theorem creds_intro (c : Dev nD) : (Pipeline.launchCred (fun d => owB p d Finset.univ) c : sProp 𝕄) ⊢ creds (F := F) c := by
  have h1 : (Pipeline.launchCred (fun d => owB p d Finset.univ) c : sProp 𝕄) ⊢ bigSep Finset.univ fun i : Ci => cred (tallyAt (cell c i) () (due i)) := by
    unfold Pipeline.launchCred
    refine (bigSep_subset (Finset.subset_univ (Finset.univ.map ⟨csem, csem_inj⟩))).trans ?_
    rw [bigSep_map]
    exact Entails.of_eq (bigSep_congr fun i _ => credit_at p c i)
  refine h1.trans ?_
  rw [fam_cells]
  unfold creds
  iintro ⟨⟨-, HR⟩, -, HA, HB⟩
  isplitl [HB]; · iexact HB
  isplitl [HR]; · iexact HR
  iexact HA

end Deal

end Cert.Permute

end
-- ==== Proof.Run.lean ====
/-
# The run

The whole program from any memory whose tables are all the permutation `p`: it terminates on every schedule, and each
device ends with its result as `outF` says, its arguments as they were and every semaphore at zero.
-/
module

public import proofs.«01_k».proof.Proof.Deal
public import proofs.«01_k».proof.Proof.Gen.KernelIdeal.Skeleton
public import proofs.«01_k».proof.Proof.Gen.KernelIdeal.Launch
public import Idealize.ShloMosaic.Lib.Pipeline.CollectiveSegs
public import Idealize.ShloMosaic.Lib.Pipeline.Value

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (p : Equiv.Perm (Fin 4))

variable (ρ : Dev nD → PrngReg)

section Run

/-- Every device's table is `p`. -/
def PreOK : Prop := ∀ c : Dev nD, m ((c : Thread nD τ).loc main_arg1) = fun i => tw p (i 0)

/-- The table as staged. -/
def tstg (c : Dev nD) : (cc0_stg0_0 : Ref sig .tc).ty.Contents (Elt F) :=
  (win0_0.blk (0 : Fin 1)).view.read (Elt F) ((s₀ m ρ).mem ((c : Thread nD τ).loc main_arg1))

theorem staged_at : ∀ i : S4.Idx, (win0_0.blk (0 : Fin 1)).view.emb i = i := by decide +kernel

variable {m p} in
omit [FloatOps F] in
theorem PreOK.staged (h : PreOK m p) (c : Dev nD) : tstg m ρ c = piF p := by
  have e : tstg m ρ c = m ((c : Thread nD τ).loc main_arg1) := funext fun i => by
    show m ((c : Thread nD τ).loc main_arg1) _ = _
    exact congrArg _ (staged_at i)
  rw [e, h c]; rfl

/-- What the device starts the region with, beside its scratch buffers. -/
def start (c : Dev nD) : sProp 𝕄 :=
  iprop(G' m p c ∗ creds (F := F) c ∗ levAts L lv ∗ xPt m c ∗ outPt c (m ((c : Thread nD τ).loc main_v1)))
def scr (c : Dev nD) : sProp 𝕄 :=
  iprop((∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
  Φ t := match t with
    | ⟨0, _⟩ => iprop(start m p c ∗ scr (F := F) c)
    | ⟨_ + 1, _⟩ => fin m p c
  q _ := fullShare
  owed t := match t with
    | ⟨0, _⟩ => owB p c Finset.univ
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 1)).fetch t = true := by rw [fin_N0 t]; rfl

/-- The table's staging buffer at contents `X`. -/
abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop((start m p c ∗ scr (F := F) c) ∗ (dats m p ρ 0 c).owesAt () t0_0.castSucc ∗ (∃ d, stg c ((dats m p ρ 0 c).before (0 : Fin 1) t0_0 d)))
def bodyPost (c : Dev nD) : sProp 𝕄 :=
  iprop(fin m p c ∗ (dats m p ρ 0 c).owesAt () t0_0.succ ∗ stg c (tstg m ρ c))

/-- What the body ends with is what the region asks for. -/
theorem body_leaves (hpre : PreOK m p) (K : Dev nD × Ci → ℕ) (c : Dev nD) : St m p K c (done m p c) 98 ⊢ bodyPost m p ρ c := by
  refine (leave m p c K).trans ?_
  unfold bodyPost piPt Dat.owesAt Pipeline.owesWithin
  rw [show (dats m p ρ 0 c).owed t0_0.succ = 0 from rfl, hpre.staged ρ c]
  iintro ⟨Hpi, Hf, %W, HO⟩
  isplitl [Hf]; · iexact Hf
  isplitl [HO]
  · iexists W
    isplitr; · ipureintro; exact fun _ _ => Or.inl trivial
    iexact HO
  iexists (piF p)
  isplitr; · ipureintro; rfl
  iexact Hpi

theorem body_sound (hpre : PreOK m p) (c : Dev nD) :
    bodyPre m p ρ c ⊢ run c (cc0_body (F := F) (Memref.whole cc0_stg0_0) (Memref.isWhole_whole _) (Memref.whole main_arg0) (Memref.isWhole_whole _)
      (Memref.whole main_v1) (Memref.isWhole_whole _) (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9 cc0_scratch10 cc0_scratch11) (fun _ => bodyPost m p ρ c) := by
  unfold bodyPre start G' scr
  iintro ⟨⟨⟨⟨%K, Hg⟩, Hc, Hlev, Hx, Ho⟩, Hs0, Hs1⟩, HO, ⟨%d, %g, %hg, Ht⟩⟩
  have ht : g = piF p := by
    rw [hg]; unfold Dat.before; rw [if_pos (fetch_0 t0_0)]
    exact hpre.staged ρ c
  subst ht
  unfold Dat.owesAt Pipeline.owesWithin
  icases HO with ⟨%W, %hW, HO⟩
  rw [show (dats m p ρ 0 c).owed t0_0.castSucc = owB p c Finset.univ from rfl]
  iapply (body_run m p K c (Memref.isWhole_whole _) (fun _ => bodyPost m p ρ c) (body_leaves m p ρ hpre K c))
  iapply (enter m p c K W (m ((c : Thread nD τ).loc main_v1)))
  isplitl [Hg]; · iexact Hg
  isplitl [Hc]; · iexact Hc
  isplitl [Hlev]; · iexact Hlev
  isplitl [Hx]; · iexact Hx
  isplitl [Ho]; · iexact Ho
  isplitl [HO]; · iexact HO
  isplitl [Ht]; · unfold piPt; iexact Ht
  isplitl [Hs0]; · iexact Hs0
  iexact Hs1

set_option maxRecDepth 8000 in
theorem body_obligation (hpre : PreOK m p) (c : Dev nD) : BodyObligation (dats (F := F) m p ρ 0 c) (defs₀ (F := F)) 𝒱₀ () Set.univ := fun t => by
  rw [fin_N0 t]
  rw [bigSep_W0, bigSep_W0]
  simp only [owns_whole_eq]
  exact body_sound m p ρ hpre c

/-! ## The launch's side conditions -/

theorem ownSemFacts : Pipeline.OwnSemFacts cfg0.spec osem where
  isScoped := by decide +kernel
  inj := fun i j h => oi_inj (csem_inj h)
  disj := by decide +kernel
theorem share_eq (c : Dev nD) (w : Fin cfg0.W) : (dats m p ρ 0 c).share w = fullShare := by unfold Dat.share; split <;> rfl

/-- What of the input the kernel does not touch. -/
def rest (c : Dev nD) : sProp 𝕄 := ((c : Thread nD τ).loc main_arg0) ↦[Finset.univ \ xset c]{fullShare} inp m c

theorem start_intro (c : Dev nD) :
    iprop(Pipeline.unscopedRestP Pipeline.Prefetch.none cfg0.spec c (fun b => m ((c : Thread nD τ).loc b)) ∗ levAts L lv
        ∗ Pipeline.launchCred (fun d => owB p d Finset.univ) c ∗ prngReg c (ρ c) ∗ G' m p c)
      ⊢ |={Set.univ}=> iprop(start m p c ∗ rest m c) := by
  rw [Pipeline.unscopedRestP_none, unscopedRest0_eq]
  iintro ⟨⟨Hx, Ho⟩, Hlev, Hcr, -, HG⟩
  ihave Hc := (creds_intro (F := F) p c) $$ Hcr
  ihave Hx' := (pointsTo_split_subset (Finset.subset_univ (xset c))).1 $$ Hx
  icases Hx' with ⟨H1, H2⟩
  imodintro
  unfold start rest xPt outPt
  isplitr [H2]
  · isplitl [HG]; · iexact HG
    isplitl [Hc]; · iexact Hc
    isplitl [Hlev]; · iexact Hlev
    isplitl [H1]; · iexact H1
    iexact Ho
  · iexact H2

theorem phi0_intro (c : Dev nD) :
    iprop(start m p c ∗ Pipeline.prefHeld Pipeline.Prefetch.none c (fun _ => fullShare.right) (fun k => k.elim0) ∗ Pipeline.scopedRest cfg0.spec c)
      ⊢ (dats m p ρ 0 c).Φ 0 := by
  rw [show (dats m p ρ 0 c).Φ 0 = iprop(start m p c ∗ scr (F := F) c) from rfl, scopedRest0_eq]
  iintro ⟨Hs, -, Hr⟩
  isplitl [Hs]; · iexact Hs
  unfold scr; iexact Hr

/-- What the run's end is read from. -/
def ends (c : Dev nD) : sProp 𝕄 := iprop(unscopedSems0 c ∗ xPt m c ∗ outPt c (outF m p c))

theorem phi1_exit (c : Dev nD) :
    (dats m p ρ 0 c).Φ (Fin.last cfg0.N) ⊢ iprop(ends m p c ∗ Pipeline.ownSems0 osem c ∗ Pipeline.scopedRest cfg0.spec c) := by
  rw [show (dats m p ρ 0 c).Φ (Fin.last cfg0.N) = fin m p c from rfl, scopedRest0_eq]
  unfold fin ends Pipeline.ownSems0
  rw [unscopedSems0_eq]
  iintro ⟨Hx, Ho, Hs0, Hs1, HB, Hz⟩
  isplitl [Hx Ho HB]
  · isplitl [HB]; · iexact HB
    isplitl [Hx]; · iexact Hx
    iexact Ho
  isplitl [Hz]; · iexact Hz
  isplitl [Hs0]; · iexact Hs0
  iexact Hs1

theorem waits (c : Dev nD) : (levAts L lv : sProp 𝕄) ⊢ Pipeline.cellsWaits cfgs (dats m p ρ) () 0 c :=
  Pipeline.cellsWaits_intro cfgs (dats m p ρ) () 0 c fun w s t => by
    rcases t with ⟨_ | _, ht⟩
    · exact mayWait_low p c _ (by fin_cases w; fin_cases s; decide +kernel) Finset.univ
    · show _ ⊢ MayWait (c : Thread nD τ) _ () 0
      rw [MayWait_zero]; iintro -; iempintro

omit [FloatOps F] in
/-- A buffer held whole is what the memory holds. -/
theorem read_one (c : Dev nD) (b : Ref sig .tc) (f : b.ty.Contents (Elt F)) (s' : Phys nD τ sig (Elt F)) :
    iprop((((c : Thread nD τ).loc b) ↦{fullShare} f : sProp 𝕄) ∗ SI s') ⊢ iprop(⌜s'.mem.mem ((c : Thread nD τ).loc b) = f⌝ ∗ SI s') := by
  have h := pointsTo_read_all (Ix := Unit) (Name := ℕ) (U := UU) (Lvl := ℕ) (Val := Elt F) (Finset.univ : Finset (Fin 1)) (fun _ => (c : Thread nD τ).loc b) (fun _ => f) s'
  rw [bigSep_W0] at h
  refine h.trans ?_
  iintro ⟨%h, HSI⟩
  isplitr; · ipureintro; exact h 0 (Finset.mem_univ _)
  iexact HSI

/-- What is read of the final memory. -/
def Read (c : Dev nD) (s : MemSt nD τ sig (Elt F)) : Prop :=
  (s.mem ((c : Thread nD τ).loc main_arg0) = m ((c : Thread nD τ).loc main_arg0) ∧ s.mem ((c : Thread nD τ).loc main_v1) = outF m p c)
    ∧ ∀ sm : SemLoc sig, sm.isScoped .tc = false → s.sem ((c : Thread nD τ), sm) = 0

omit [FloatOps F] in
theorem read_ends (c : Dev nD) (s' : Phys nD τ sig (Elt F)) :
    iprop(ends m p c ∗ rest m c ∗ SI s') ⊢ |={Set.univ}=> iprop(⌜Read m p c s'.mem⌝ ∗ SI s') := by
  unfold ends rest xPt outPt
  iintro ⟨⟨Hu, Hx, Ho⟩, Hr, HSI⟩
  ihave Hx' := (show iprop((((c : Thread nD τ).loc main_arg0) ↦[xset c]{fullShare} inp m c) ∗ ((c : Thread nD τ).loc main_arg0) ↦[Finset.univ \ xset c]{fullShare} inp m c)
      ⊢ (((c : Thread nD τ).loc main_arg0) ↦{fullShare} inp m c : sProp 𝕄) from (pointsTo_split_subset (Finset.subset_univ _)).2) $$ [Hx Hr]
  · isplitl [Hx] <;> iassumption
  ihave H1 := (read_one c main_arg0 (inp m c) s') $$ [Hx' HSI]
  · isplitl [Hx'] <;> iassumption
  icases H1 with ⟨%h1, HSI⟩
  ihave H2 := (read_one c main_v1 (outF m p c) s') $$ [Ho HSI]
  · isplitl [Ho] <;> iassumption
  icases H2 with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨⟨h1, h2⟩, h3⟩
  iexact HSI

theorem table_kept (c : Dev nD) : (dats m p ρ 0 c).arrAt (0 : Fin 1) cfg0.N = m ((c : Thread nD τ).loc main_arg1) :=
  (dats m p ρ 0 c).arrAt_in (0 : Fin 1) rfl _

/-! ## The run -/

set_option maxRecDepth 8000 in
/-- From any memory whose tables are all `p` and with every semaphore at zero, for any float values: every weakly fair
    execution terminates, and in every final state each device's result is `outF`, its arguments are unchanged and every
    semaphore is at zero. -/
theorem run_main (hpre : PreOK m p) : θ_run defs (onTc (τ := τ) (main (F := F))) (s₀ m ρ) (fun r => (∀ c : Dev nD,
      r.2.mem ((c : Thread nD τ).loc main_v1) = outF m p c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m p ρ) () cellOf_inj (0 : Fin 1)
    winFacts0.to₀ ownSemFacts (Pipeline.PreFacts.none _) EP defs₀ 𝒱₀ m ρ main
    (hmain := fun _ => rfl)
    (hbody := fun c => (body_obligation m p ρ hpre c).loose) (hne := fun w => by fin_cases w; exact Nat.succ_pos _) (harr := arr_whole0) (hstage := stage_whole0) (hshare := share_eq m p ρ)
    (hdistinct := winFacts0.arr_inj)
    (O₀ := fun d => owB p d Finset.univ) (howed₀ := fun _ => rfl) (howedN := fun _ => rfl)
    (L := L) (lv := lv) (hL := L_of_ne) (hwaits := waits m p ρ)
    (G := G m p) (G' := G' m p) (u₀ := u₀)
    (hu₀ := by
      unfold u₀
      iintro Hu
      ihave H := (ownU_pair _ _) $$ Hu
      icases H with ⟨HP, HX⟩
      imod (fund_ring m p) $$ HX with HG
      imodintro
      isplitl [HP] <;> iassumption)
    (hglob := glob m p)
    (hA := fun _ _ => rfl) (hpf := fun _ k => k.elim0)
    (X := start m p) (Y := ends m p) (Z := rest m)
    (hX := start_intro m p ρ) (hin := phi0_intro m p ρ) (hout := phi1_exit m p ρ)
    (QY := Read m p) (hY := read_ends m p)
    (hQ := fun _ h hs => ⟨fun c => ⟨(h c).2.2.1.2, (h c).2.2.1.1, ((h c).1 0).trans (table_kept m p ρ c)⟩, sem_eq_zero hs fun c => (h c).2.2.2⟩)

end Run

end Cert.Permute

end
-- ==== Proof.Tables.lean ====
/-
# The three tables

A table is the list of four positions shifted round by `k`: entry `i` is `i - k`. The claims state `k = 1, 2, 3`. Here a
precondition, which the program text writes as four comparisons joined by `and`, is read as "the table is the one shifted by `k`".
-/
module

public import proofs.«01_k».proof.Defs
public import proofs.«01_k».proof.Proof.Run
public import proofs.«01_k».proof.Proof.Gen.Kernel
public import proofs.«01_k».proof.Proof.Gen.Pre_pi_rolled_by_1_Kernel
public import proofs.«01_k».proof.Proof.Gen.Pre_pi_rolled_by_2_Kernel
public import proofs.«01_k».proof.Proof.Gen.Pre_pi_rolled_by_3_Kernel
public import Idealize.ShloMosaic.Lib.ReduceAll

@[expose] public section

noncomputable section

namespace Cert.Permute

open Idealize.ShloMosaic Idealize.ShloMosaic.TcCoe Idealize.SL.Sem

/-- The permutation that sends position `i` to `i - k`. -/
def roll (k : Fin 4) : Equiv.Perm (Fin 4) := ⟨fun i => i - k, fun i => i + k, by revert k; decide, by revert k; decide⟩

section Read
variable {F : FTy → Type} [FloatOps F]

/-- Four comparisons joined by `and` give one: the two lists are equal. -/
theorem eq_of_all {t : Shape} [Subsingleton t.Idx] {s u : Shape} {axes : List (Fin s.rank)} (x y : IVec s 32) (init : u.Idx → BitVec 1)
    (h : s.ReducesTo axes t) (hu : 0 < u.numel) (e : Host.reduce IntOp.andi (cmpi .eq x y) init h hu = fun _ => 1#1) (j : t.Idx) :
    x = y := by
  funext i
  have hi : IntOp.cmpi .eq (x i) (y i) = 1#1 := Host.reduce_andi_all _ init h hu j (congrFun e j) i
  have hb : ∀ b : Bool, BitVec.ofBool b = 1#1 → b = true := by decide
  exact eq_of_beq (hb _ hi)

instance : Subsingleton Cert.Pre_pi_rolled_by_1_Kernel.S_.Idx := ⟨fun a b => funext fun i => i.elim0⟩

/-- The first precondition says the table is the one shifted by one. -/
theorem table1 (x : FVec F Cert.Pre_pi_rolled_by_1_Kernel.S1x1024x1024 .bf16) (t : IVec Cert.Pre_pi_rolled_by_1_Kernel.S4 32)
    (h : Cert.Pre_pi_rolled_by_1_Kernel.fn x t = fun _ => 1#1) : t = fun i => tw (roll 1) (i 0) :=
  (eq_of_all _ _ _ _ _ h fun i => i.elim0).trans (by decide +kernel)

/-- The second says it is the one shifted by two. -/
theorem table2 (x : FVec F Cert.Pre_pi_rolled_by_2_Kernel.S1x1024x1024 .bf16) (t : IVec Cert.Pre_pi_rolled_by_2_Kernel.S4 32)
    (h : Cert.Pre_pi_rolled_by_2_Kernel.fn x t = fun _ => 1#1) : t = fun i => tw (roll 2) (i 0) :=
  (eq_of_all _ _ _ _ _ h fun i => i.elim0).trans (by decide +kernel)

/-- The third says it is the one shifted by three. -/
theorem table3 (x : FVec F Cert.Pre_pi_rolled_by_3_Kernel.S1x1024x1024 .bf16) (t : IVec Cert.Pre_pi_rolled_by_3_Kernel.S4 32)
    (h : Cert.Pre_pi_rolled_by_3_Kernel.fn x t = fun _ => 1#1) : t = fun i => tw (roll 3) (i 0) :=
  (eq_of_all _ _ _ _ _ h fun i => i.elim0).trans (by decide +kernel)

end Read

/-! ## The frames -/

/-- Over exact values, with the table shifted by `k` on every device, the kernel ends with its arguments as they were and every
counter at zero. -/
theorem frame_ideal (k : Fin 4) (m : (ℓ : Loc Cert.KernelIdeal.nD Cert.KernelIdeal.τ Cert.KernelIdeal.sig) → Buf (Elt Ideal) ℓ)
    (ρ : Dev Cert.KernelIdeal.nD → PrngReg) (h : PreOK m (roll k)) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
        ∧ r.2.sem = fun _ => 0) :=
  (θ_run Cert.KernelIdeal.defs _ _).mono (fun _ e => ⟨fun c => (e.1 c).2, e.2⟩) (run_main m (roll k) ρ h)

end Cert.Permute

end
-- ==== Proof.Same.lean ====
/-
# The printed kernel and its reading over exact values have one text

The run is written for the second and over any float values. Here the two body tables are shown equal over the machine's own
floats, and the frame of the printed kernel is taken from that run.
-/
module

public import proofs.«01_k».proof.Proof.Tables

@[expose] public section

noncomputable section

namespace Cert.Permute

open Idealize.ShloMosaic Idealize.ShloMosaic.TcCoe Idealize.SL.Sem

/-- The two kernel bodies are the same. -/
theorem body_same : Cert.Kernel.cc0_body (F := Bits) = Cert.KernelIdeal.cc0_body (F := Bits) := rfl

/-- The two tables of kernel bodies are the same: one entry each. -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

/-- So are the two programs' body tables. -/
theorem defs_same : Cert.Kernel.defs (F := Bits) = Cert.KernelIdeal.defs (F := Bits) := by
  unfold Cert.Kernel.defs Cert.KernelIdeal.defs
  exact congrArg (Pipeline.defs _) bodies_same

/-- And the two `@main`s. -/
theorem main_same : Cert.Kernel.main (F := Bits) = Cert.KernelIdeal.main (F := Bits) := rfl

/-- The same of the kernel as printed, over the machine's own floats: the program text is the same. -/
theorem frame_bits (k : Fin 4) (m : (ℓ : Loc Cert.Kernel.nD Cert.Kernel.τ Cert.Kernel.sig) → Buf (Elt Bits) ℓ)
    (ρ : Dev Cert.Kernel.nD → PrngReg) (h : PreOK (F := Bits) m (roll k)) :
    θ_run (Cert.Kernel.defs (F := Bits)) (onTc (τ := Cert.Kernel.τ) (Cert.Kernel.main (F := Bits))) ⟨m, fun _ => 0, ρ⟩
      (fun r => (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1))
        ∧ r.2.sem = fun _ => 0) := by
  rw [defs_same, main_same]
  exact (θ_run Cert.KernelIdeal.defs _ _).mono (fun _ e => ⟨fun c => (e.1 c).2, e.2⟩) (run_main (F := Bits) m (roll k) ρ h)

end Cert.Permute

end
-- ==== Proof.Reference.lean ====
/-
# The reference's value at a shifted table

The reference sorts the positions by the table and gathers the slabs in that order: slab `z` of its result is slab
`p.symm z` of its operand, `p` being the table. Over exact values the two changes of float type do nothing.
-/
module

public import proofs.«01_k».proof.Proof.Tables
public import proofs.«01_k».proof.Proof.Gen.ReferenceIdeal
public import proofs.«01_k».proof.Proof.Gen.ReferenceIdeal.Run

@[expose] public section

noncomputable section

namespace Cert.Permute

open Cert.ReferenceIdeal Cert.ReferenceIdeal.Gen
open Idealize.ShloMosaic Idealize.ShloMosaic.TcCoe Idealize.SL.Sem

/-- The positions in the order of the table `t`, a negative one counted from the end: the gather's start indices. -/
def order (t : IVec S4 32) : IVec S4 32 :=
  let s := (Host.sort2 S4 0 comparator_i32_i32_d0 t (iotaInDim S4 32 0)).2
  select (cmpi .slt s (broadcastInDim S4 ![] bcast_S_S4 (constantI S_ 32 0#32)))
    (addi s (broadcastInDim S4 ![] bcast_S_S4 (constantI S_ 32 4#32))) s

/-- The index of position `z`. -/
def at4 (z : Fin 4) : S4.Idx := fun a => match a with | ⟨0, _⟩ => z

/-- The index of the row and lane of `j` in slab `z`. -/
def inSlab (z : Fin 4) (j : S4x1024x1024.Idx) : S4x1024x1024.Idx := fun a => match a with | ⟨0, _⟩ => z | ⟨1, _⟩ => j 1 | ⟨2, _⟩ => j 2

/-- Sorting the positions by a shifted table gives its inverse. -/
theorem order_roll : ∀ k j : Fin 4, order (fun i => tw (roll k) (i 0)) (at4 j) = BitVec.ofNat 32 ((roll k).symm j).val := by
  decide +kernel

/-- Read at an index, the gather gives the operand's slab named by the start index, at the same row and lane. -/
theorem gather_at {α : Type} (x : S4x1024x1024.Idx → α) (idx : IVec S4x1 32) (j : S4x1024x1024.Idx) (z : Fin 4)
    (hz : ∀ b : S4x1.Idx, (b 0).val = (j 0).val → idx b = BitVec.ofNat 32 z.val) :
    Host.gather gather_S4x1024x1024_S4x1_S4x1024x1024_12_0_n_n_0_1_110241024 x idx j
      = x (inSlab z j) := by
  unfold Host.gather
  refine congrArg x (funext fun a => Fin.ext ?_)
  let d := gather_S4x1024x1024_S4x1_S4x1024x1024_12_0_n_n_0_1_110241024
  show d.start j idx a + d.batchCoord j a + d.offCoord j a = _
  rw [d.batchCoord_eq_zero j a List.not_mem_nil, Nat.add_zero]
  have ha : a = 0 ∨ a = 1 ∨ a = 2 := by
    have h3 : a.val < 3 := a.isLt
    rcases Nat.lt_or_ge a.val 1 with h | h
    · exact Or.inl (Fin.ext (by show a.val = 0; omega))
    · rcases Nat.lt_or_ge a.val 2 with h' | h'
      · exact Or.inr (Or.inl (Fin.ext (by show a.val = 1; omega)))
      · exact Or.inr (Or.inr (Fin.ext (by show a.val = 2; omega)))
  rcases ha with rfl | rfl | rfl
  · rw [d.offCoord_eq_zero j 0 (fun h => ((d.mem_sKept _).mp h).1 (List.mem_singleton.mpr rfl)), Nat.add_zero]
    unfold GatherDims.start
    rw [dif_pos (show (0 : Fin 3) ∈ d.startIndexMap from List.mem_singleton.mpr rfl), hz _ rfl]
    show min (BitVec.ofNat 32 z.val).toInt.toNat 3 = z.val
    clear * -
    revert z; decide
  · unfold GatherDims.start GatherDims.offCoord
    rw [dif_neg (show (1 : Fin 3) ∉ d.startIndexMap from by decide), dif_pos (show (1 : Fin 3) ∈ d.sKept from by decide), Nat.zero_add]
    rfl
  · unfold GatherDims.start GatherDims.offCoord
    rw [dif_neg (show (2 : Fin 3) ∉ d.startIndexMap from by decide), dif_pos (show (2 : Fin 3) ∈ d.sKept from by decide), Nat.zero_add]
    rfl

/-- Slab `z` of the reference's value is slab `p.symm z` of its operand. -/
def permuted {α : Type} (p : Equiv.Perm (Fin 4)) (x : S4x1024x1024.Idx → α) : S4x1024x1024.Idx → α :=
  fun j => x (inSlab (p.symm (j 0)) j)

/-- The reference's composed term, at a shifted table, is that. -/
theorem gathered (k : Fin 4) {α : Type} (x : S4x1024x1024.Idx → α) :
    Host.gather gather_S4x1024x1024_S4x1_S4x1024x1024_12_0_n_n_0_1_110241024 x
      (broadcastInDim S4x1 ![0] bcast_S4_S4x1_0 (order fun i => tw (roll k) (i 0))) = permuted (roll k) x := by
  funext j
  refine gather_at x _ j ((roll k).symm (j 0)) fun b hb => ?_
  refine Eq.trans ?_ (order_roll k (j 0))
  show order _ _ = order _ _
  refine congrArg _ (funext fun a => ?_)
  obtain rfl : a = 0 := Subsingleton.elim _ _
  exact Fin.ext hb

/-- The reference's run, at a shifted table: its result is its operand's slabs in the table's order, its arguments are as they were. -/
theorem run_reference (k : Fin 4) (m : (ℓ : Loc nD τ sig) → Buf (Elt Ideal) ℓ) (ρ : Dev nD → PrngReg)
    (h : m (((0 : Dev nD) : Thread nD τ).loc main_arg1) = fun i => tw (roll k) (i 0)) :
    θ_run (defs (F := Ideal)) (onTc (τ := τ) (main (F := Ideal))) ⟨m, fun _ => 0, ρ⟩ (fun r =>
      r.2.mem (((0 : Dev nD) : Thread nD τ).loc main_v9) = permuted (roll k) (m (((0 : Dev nD) : Thread nD τ).loc main_arg0))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)) :=
  (θ_run defs _ _).mono (fun _ e => ⟨(e 0).1.trans (by rw [h]; exact gathered k _), (e 0).2⟩) (Cert.ReferenceIdeal.Value.run (F := Ideal) m ρ)

/-- The reference runs from any memory, ends with its arguments as they were, and declares no counter. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r e => ⟨fun c => (e c).2, sem_eq_zero_of_no_sems (by decide) r.2⟩) (Cert.ReferenceIdeal.Value.run (F := Ideal) m ρ)

end Cert.Permute

end
-- ==== Proof.Value.lean ====
/-
# The value: each device ends with its block of the reference's result

Device `e` holds slab `dZ e` of both arrays. Its result is, row by row, the input of a device at `p.symm (dZ e)` on the `z`
axis, and slab `dZ e` of the reference's result is slab `p.symm (dZ e)` of the operand.
-/
module

public import proofs.«01_k».proof.Proof.Reference

@[expose] public section

noncomputable section

namespace Cert.Permute

open Cert.KernelIdeal Cert.KernelIdeal.Gen
open Idealize.ShloMosaic Idealize.ShloMosaic.TcCoe Idealize.SL.Sem

/-- Device `c`'s block of an array of four slabs: the slab of its place on the `z` axis. -/
abbrev slabOf {α : Type} (c : Dev nD) (x : Cert.ReferenceIdeal.S4x1024x1024.Idx → α) : S1x1024x1024.Idx → α :=
  Layout.blockN ⟨3, ![1, 1024, 1024]⟩ ⟨3, ![4, 1024, 1024]⟩ (Layout.meshBlock [2, 2, 4] ![[2], [], []] c) x

/-- The place of device `c` in the layout along `z` is its `z` coordinate. -/
theorem lin_z (c : Dev nD) : Layout.meshLin [2, 2, 4] c.val [2] = (dZ c).val := by revert c; decide

/-- The index in the whole array of a row and lane of device `c`'s block. -/
def wholeIdx (z : Fin 4) (i : S1x1024x1024.Idx) : Cert.ReferenceIdeal.S4x1024x1024.Idx :=
  fun a => match a with | ⟨0, _⟩ => z | ⟨1, _⟩ => i 1 | ⟨2, _⟩ => i 2

theorem slabOf_apply {α : Type} (c : Dev nD) (x : Cert.ReferenceIdeal.S4x1024x1024.Idx → α) (i : S1x1024x1024.Idx) :
    slabOf c x i = x (wholeIdx (dZ c) i) := by
  refine congrArg x (funext fun a => Fin.ext ?_)
  match a with
  | ⟨0, _⟩ =>
    have h0 : (i 0).val < 1 := (i 0).isLt
    show Layout.meshLin [2, 2, 4] c.val [2] * 1 + (i 0).val = (dZ c).val
    rw [lin_z]; omega
  | ⟨1, _⟩ => show 0 * 1024 + (i 1).val = (i 1).val; omega
  | ⟨2, _⟩ => show 0 * 1024 + (i 2).val = (i 2).val; omega

/-- When each device's input is its block of `x`, each device's result is its block of `x` with the slabs in the table's order. -/
theorem value (k : Fin 4) (m : (ℓ : Loc nD τ sig) → Buf (Elt Ideal) ℓ) (x : Cert.ReferenceIdeal.S4x1024x1024.Idx → Ideal .bf16)
    (hx : ∀ c : Dev nD, m ((c : Thread nD τ).loc main_arg0) = slabOf c x) (c : Dev nD) :
    outF m (roll k) c = slabOf c (permuted (roll k) x) := by
  funext i
  rw [slabOf_apply]
  show m ((srcOf (roll k) c i : Thread nD τ).loc main_arg0) i = _
  rw [hx, slabOf_apply]
  have hz : dZ (srcOf (roll k) c i) = (roll k).symm (dZ c) := dZ_mk _ _ _
  rw [hz]
  refine congrArg x (funext fun a => ?_)
  match a with
  | ⟨0, _⟩ => rfl
  | ⟨1, _⟩ => rfl
  | ⟨2, _⟩ => rfl

/-- Both runs, at a shifted table: the kernel leaves on each device that device's block of what the reference leaves. -/
theorem both_runs (k : Fin 4) (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (ρ' : Dev Cert.ReferenceIdeal.nD → PrngReg) (h : PreOK m (roll k))
    (hag : ∀ c : Dev nD,
      m ((c : Thread nD τ).loc main_arg0) = slabOf c (m' (((0 : Dev Cert.ReferenceIdeal.nD) : Thread Cert.ReferenceIdeal.nD Cert.ReferenceIdeal.τ).loc Cert.ReferenceIdeal.main_arg0))
      ∧ m ((c : Thread nD τ).loc main_arg1) = m' (((0 : Dev Cert.ReferenceIdeal.nD) : Thread Cert.ReferenceIdeal.nD Cert.ReferenceIdeal.τ).loc Cert.ReferenceIdeal.main_arg1)) :
    ∃ v0 : Buf (Elt Ideal) (((0 : Dev Cert.ReferenceIdeal.nD) : Thread Cert.ReferenceIdeal.nD Cert.ReferenceIdeal.τ).loc Cert.ReferenceIdeal.main_v9),
      θ_run (defs (F := Ideal)) (onTc (τ := τ) (main (F := Ideal))) ⟨m, fun _ => 0, ρ⟩ (fun r => ∀ c : Dev nD,
        r.2.mem ((c : Thread nD τ).loc main_v1) = slabOf c v0
        ∧ r.2.mem ((c : Thread nD τ).loc main_arg0) = m ((c : Thread nD τ).loc main_arg0)
        ∧ r.2.mem ((c : Thread nD τ).loc main_arg1) = m ((c : Thread nD τ).loc main_arg1))
      ∧ θ_run (Cert.ReferenceIdeal.defs (F := Ideal)) (onTc (τ := Cert.ReferenceIdeal.τ) (Cert.ReferenceIdeal.main (F := Ideal))) ⟨m', fun _ => 0, ρ'⟩ (fun r =>
        r.2.mem (((0 : Dev Cert.ReferenceIdeal.nD) : Thread Cert.ReferenceIdeal.nD Cert.ReferenceIdeal.τ).loc Cert.ReferenceIdeal.main_v9) = v0
        ∧ r.2.mem (((0 : Dev Cert.ReferenceIdeal.nD) : Thread Cert.ReferenceIdeal.nD Cert.ReferenceIdeal.τ).loc Cert.ReferenceIdeal.main_arg0) = m' (((0 : Dev Cert.ReferenceIdeal.nD) : Thread Cert.ReferenceIdeal.nD Cert.ReferenceIdeal.τ).loc Cert.ReferenceIdeal.main_arg0)
        ∧ r.2.mem (((0 : Dev Cert.ReferenceIdeal.nD) : Thread Cert.ReferenceIdeal.nD Cert.ReferenceIdeal.τ).loc Cert.ReferenceIdeal.main_arg1) = m' (((0 : Dev Cert.ReferenceIdeal.nD) : Thread Cert.ReferenceIdeal.nD Cert.ReferenceIdeal.τ).loc Cert.ReferenceIdeal.main_arg1)) :=
  ⟨permuted (roll k) (m' (((0 : Dev Cert.ReferenceIdeal.nD) : Thread Cert.ReferenceIdeal.nD Cert.ReferenceIdeal.τ).loc Cert.ReferenceIdeal.main_arg0)),
    (θ_run defs _ _).mono (fun _ e c => ⟨(e.1 c).1.trans (value k m _ (fun c => (hag c).1) c), (e.1 c).2⟩) (run_main m (roll k) ρ h),
    run_reference k m' ρ' ((hag 0).2.symm.trans (h 0))⟩

end Cert.Permute

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pi_rolled_by_1_Kernel
public import proofs.«01_k».proof.Proof.Gen.Pre_pi_rolled_by_2_Kernel
public import proofs.«01_k».proof.Proof.Gen.Pre_pi_rolled_by_3_Kernel
public import proofs.«01_k».proof.Proof.Gen.Pre_pi_rolled_by_1_ReferenceIdeal
public import proofs.«01_k».proof.Proof.Gen.Pre_pi_rolled_by_2_ReferenceIdeal
public import proofs.«01_k».proof.Proof.Gen.Pre_pi_rolled_by_3_ReferenceIdeal
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Permute

/-- All the claims together. Each frame and each value claim is the one theorem for a shifted table, at its shift. -/
theorem claim : Cert.Claim :=
  ⟨Cert.Kernel.Gen.facts, Cert.KernelIdeal.Gen.facts, Cert.ReferenceIdeal.Gen.facts,
    Cert.Pre_pi_rolled_by_1_Kernel.Gen.facts, Cert.Pre_pi_rolled_by_2_Kernel.Gen.facts, Cert.Pre_pi_rolled_by_3_Kernel.Gen.facts,
    Cert.Pre_pi_rolled_by_1_ReferenceIdeal.Gen.facts, Cert.Pre_pi_rolled_by_2_ReferenceIdeal.Gen.facts,
    Cert.Pre_pi_rolled_by_3_ReferenceIdeal.Gen.facts,
    fun m ρ h => frame_bits 1 m ρ fun c => table1 _ _ (h c),
    fun m ρ h => frame_bits 2 m ρ fun c => table2 _ _ (h c),
    fun m ρ h => frame_bits 3 m ρ fun c => table3 _ _ (h c),
    fun m ρ h => frame_ideal 1 m ρ fun c => table1 _ _ (h c),
    fun m ρ h => frame_ideal 2 m ρ fun c => table2 _ _ (h c),
    fun m ρ h => frame_ideal 3 m ρ fun c => table3 _ _ (h c),
    fun m ρ _ => frame_reference m ρ,
    fun m ρ _ => frame_reference m ρ,
    fun m ρ _ => frame_reference m ρ,
    fun m ρ _ => frame_reference m ρ,
    trivial,
    fun m ρ m' ρ' h hag => both_runs 1 m ρ m' ρ' (fun c => table1 _ _ (h c)) hag,
    fun m ρ m' ρ' h hag => both_runs 2 m ρ m' ρ' (fun c => table2 _ _ (h c)) hag,
    fun m ρ m' ρ' h hag => both_runs 3 m ρ m' ρ' (fun c => table3 _ _ (h c)) hag⟩

end Cert.Proof

end
